-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x256 .bf16) (main_arg2 : FVec F S2x128x16x64 .bf16) (main_arg3 : FVec F S2x128x16x64 .bf16) (main_arg4 : FVec F S256x512 .bf16) : IVec S2x128x512 1 × IVec S512x256 1 × IVec S2x128x16x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x256 .bf16 := Host.absf main_arg1
  let main_cst_0 : FVec F S_ .bf16 := constant S_ .bf16 0x7F80#16
  let main_v4 : FVec F S512x256 .bf16 := broadcastInDim S512x256 ![] bcast_S_S512x256 main_cst_0
  let main_v5 : IVec S512x256 1 := cmpf .olt main_v3 main_v4
  let main_v6 : FVec F S2x128x16x64 .bf16 := Host.absf main_arg2
  let main_cst_1 : FVec F S_ .bf16 := constant S_ .bf16 0x7F80#16
  let main_v7 : FVec F S2x128x16x64 .bf16 := broadcastInDim S2x128x16x64 ![] bcast_S_S2x128x16x64 main_cst_1
  let main_v8 : IVec S2x128x16x64 1 := cmpf .olt main_v6 main_v7
  (main_v2, main_v5, main_v8)
-- ==== Pre_finite_ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S_ : Shape := ⟨0, ![]⟩

class Facts : Prop where
  bcast_S_S2x128x512 : S_.BroadcastsInDim S2x128x512 (![] : Fin 0 → Fin S2x128x512.rank)
  bcast_S_S512x1024 : S_.BroadcastsInDim S512x1024 (![] : Fin 0 → Fin S512x1024.rank)
  bcast_S_S2x128x16x64 : S_.BroadcastsInDim S2x128x16x64 (![] : Fin 0 → Fin S2x128x16x64.rank)

variable [Facts]

def fn {F : FTy → Type} [FloatOps F] (main_arg0 : FVec F S2x128x512 .bf16) (main_arg1 : FVec F S512x1024 .bf16) (main_arg2 : FVec F S2x128x16x64 .bf16) (main_arg3 : FVec F S2x128x16x64 .bf16) (main_arg4 : FVec F S1024x512 .bf16) : IVec S2x128x512 1 × IVec S512x1024 1 × IVec S2x128x16x64 1 :=
  let main_v0 : FVec F S2x128x512 .bf16 := Host.absf main_arg0
  let main_cst : FVec F S_ .bf16 := constant S_ .bf16 0x7F80#16
  let main_v1 : FVec F S2x128x512 .bf16 := broadcastInDim S2x128x512 ![] bcast_S_S2x128x512 main_cst
  let main_v2 : IVec S2x128x512 1 := cmpf .olt main_v0 main_v1
  let main_v3 : FVec F S512x1024 .bf16 := Host.absf main_arg1
  let main_cst_0 : FVec F S_ .bf16 := constant S_ .bf16 0x7F80#16
  let main_v4 : FVec F S512x1024 .bf16 := broadcastInDim S512x1024 ![] bcast_S_S512x1024 main_cst_0
  let main_v5 : IVec S512x1024 1 := cmpf .olt main_v3 main_v4
  let main_v6 : FVec F S2x128x16x64 .bf16 := Host.absf main_arg2
  let main_cst_1 : FVec F S_ .bf16 := constant S_ .bf16 0x7F80#16
  let main_v7 : FVec F S2x128x16x64 .bf16 := broadcastInDim S2x128x16x64 ![] bcast_S_S2x128x16x64 main_cst_1
  let main_v8 : IVec S2x128x16x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x16x64 : Shape := ⟨4, ![2, 128, 16, 64]⟩
abbrev S256x512 : Shape := ⟨2, ![256, 512]⟩
abbrev S_ : Shape := ⟨0, ![]⟩
abbrev S2x128x4x64 : Shape := ⟨4, ![2, 128, 4, 64]⟩
abbrev S2x3x128x512 : Shape := ⟨4, ![2, 3, 128, 512]⟩
abbrev S2x3 : Shape := ⟨2, ![2, 3]⟩
abbrev S256x256 : Shape := ⟨2, ![256, 256]⟩
abbrev S128x128 : Shape := ⟨2, ![128, 128]⟩
abbrev S128x64 : Shape := ⟨2, ![128, 64]⟩
abbrev S1x128x1x64 : Shape := ⟨4, ![1, 128, 1, 64]⟩
abbrev S64x128 : Shape := ⟨2, ![64, 128]⟩
abbrev S128 : Shape := ⟨1, ![128]⟩
abbrev S128x1 : Shape := ⟨2, ![128, 1]⟩
abbrev S128x256 : Shape := ⟨2, ![128, 256]⟩
abbrev S128x512 : Shape := ⟨2, ![128, 512]⟩
abbrev S1x128x512 : Shape := ⟨3, ![1, 128, 512]⟩
abbrev S1x1x128x512 : Shape := ⟨4, ![1, 1, 128, 512]⟩
abbrev S1x1 : Shape := ⟨2, ![1, 1]⟩
abbrev S64x64 : Shape := ⟨2, ![64, 64]⟩
abbrev S64 : Shape := ⟨1, ![64]⟩
abbrev S64x1 : Shape := ⟨2, ![64, 1]⟩
abbrev S64x256 : Shape := ⟨2, ![64, 256]⟩
abbrev S64x512 : Shape := ⟨2, ![64, 512]⟩
abbrev S1x64x512 : Shape := ⟨3, ![1, 64, 512]⟩
abbrev S1x1x64x512 : Shape := ⟨4, ![1, 1, 64, 512]⟩

abbrev nBuf : Space → Nat
  | .hbm => 34
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x16x64, .bf16⟩
  | .hbm, ⟨3, _⟩ => ⟨S2x128x16x64, .bf16⟩
  | .hbm, ⟨4, _⟩ => ⟨S256x512, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x4x64, .bf16⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x4x64, .bf16⟩
  | .hbm, ⟨33, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x4x64, .bf16⟩
  | .local _ .vmem, ⟨3, _⟩ => ⟨S2x128x4x64, .bf16⟩
  | .local _ .vmem, ⟨4, _⟩ => ⟨S256x512, .bf16⟩
  | .local _ .vmem, ⟨5, _⟩ => ⟨S2x128x512, .f32⟩
  | .local _ .vmem, ⟨6, _⟩ => ⟨S2x3x128x512, .bf16⟩
  | .local _ .vmem, ⟨7, _⟩ => ⟨S2x3x128x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_dev3 (d0 : Dev nD) : Nat :=
  let c0_i32_99 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_98 : BitVec 32 := 1#32
  let v178 : BitVec 32 := Scalar.muli v3 c1_i32_98
  let v179 : BitVec 32 := Scalar.addi c0_i32_99 v178
  v179.toNat
def k0_dev4 (d0 : Dev nD) : Nat :=
  let c0_i32_173 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_172 : BitVec 32 := 1#32
  let v278 : BitVec 32 := Scalar.muli v3 c1_i32_172
  let v279 : BitVec 32 := Scalar.addi c0_i32_173 v278
  v279.toNat
def k0_dev5 (d0 : Dev nD) : Nat :=
  let c0_i32_246 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_245 : BitVec 32 := 1#32
  let v378 : BitVec 32 := Scalar.muli v3 c1_i32_245
  let v379 : BitVec 32 := Scalar.addi c0_i32_246 v378
  v379.toNat
def k0_dev6 (d0 : Dev nD) : Nat :=
  let c0_i32_288 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_287 : BitVec 32 := 1#32
  let v409 : BitVec 32 := Scalar.muli v4 c1_i32_287
  let v410 : BitVec 32 := Scalar.addi c0_i32_288 v409
  v410.toNat
def k0_dev7 (d0 : Dev nD) : Nat :=
  let c0_i32_330 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_329 : BitVec 32 := 1#32
  let v440 : BitVec 32 := Scalar.muli v4 c1_i32_329
  let v441 : BitVec 32 := Scalar.addi c0_i32_330 v440
  v441.toNat
def k0_dev8 (d0 : Dev nD) : Nat :=
  let c0_i32_372 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_371 : BitVec 32 := 1#32
  let v471 : BitVec 32 := Scalar.muli v4 c1_i32_371
  let v472 : BitVec 32 := Scalar.addi c0_i32_372 v471
  v472.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S2x128x16x64 : Shape := ⟨4, ![2, 128, 16, 64]⟩
abbrev S1024x512 : Shape := ⟨2, ![1024, 512]⟩
abbrev S2x128x1024 : Shape := ⟨3, ![2, 128, 1024]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x16x128x128 : Shape := ⟨4, ![2, 16, 128, 128]⟩
abbrev S1x1x128x128 : Shape := ⟨4, ![1, 1, 128, 128]⟩
abbrev S2x16x128 : Shape := ⟨3, ![2, 16, 128]⟩
abbrev S2x16x128x1 : Shape := ⟨4, ![2, 16, 128, 1]⟩
abbrev S1x1x128x1 : Shape := ⟨4, ![1, 1, 128, 1]⟩
abbrev S2x16x64x128 : Shape := ⟨4, ![2, 16, 64, 128]⟩

abbrev nBuf : Space → Nat
  | .hbm => 128
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S2x128x16x64, .bf16⟩
  | .hbm, ⟨3, _⟩ => ⟨S2x128x16x64, .bf16⟩
  | .hbm, ⟨4, _⟩ => ⟨S1024x512, .bf16⟩
  | .hbm, ⟨5, _⟩ => ⟨S2x128x1024, .f32⟩
  | .hbm, ⟨6, _⟩ => ⟨S2x128x1024, .bf16⟩
  | .hbm, ⟨7, _⟩ => ⟨S2x128x16x64, .bf16⟩
  | .hbm, ⟨8, _⟩ => ⟨S128, .i32⟩
  | .hbm, ⟨9, _⟩ => ⟨S_, .i32⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S128, .i1⟩
  | .hbm, ⟨17, _⟩ => ⟨S128, .i32⟩
  | .hbm, ⟨18, _⟩ => ⟨S128, .i32⟩
  | .hbm, ⟨19, _⟩ => ⟨S_, .i32⟩
  | .hbm, ⟨20, _⟩ => ⟨S128, .i32⟩
  | .hbm, ⟨21, _⟩ => ⟨S128, .i1⟩
  | .hbm, ⟨22, _⟩ => ⟨S128, .i1⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .i32⟩
  | .hbm, ⟨27, _⟩ => ⟨S128x1, .i32⟩
  | .hbm, ⟨28, _⟩ => ⟨S128, .i32⟩
  | .hbm, ⟨29, _⟩ => ⟨S_, .i32⟩
  | .hbm, ⟨30, _⟩ => ⟨S_, .i32⟩
  | .hbm, ⟨31, _⟩ => ⟨S128, .i32⟩
  | .hbm, ⟨32, _⟩ => ⟨S128, .i32⟩
  | .hbm, ⟨33, _⟩ => ⟨S128, .i32⟩
  | .hbm, ⟨34, _⟩ => ⟨S_, .i32⟩
  | .hbm, ⟨35, _⟩ => ⟨S128, .i32⟩
  | .hbm, ⟨36, _⟩ => ⟨S128, .i1⟩
  | .hbm, ⟨37, _⟩ => ⟨S128, .i32⟩
  | .hbm, ⟨38, _⟩ => ⟨S128, .i32⟩
  | .hbm, ⟨39, _⟩ => ⟨S_, .i32⟩
  | .hbm, ⟨40, _⟩ => ⟨S128, .i32⟩
  | .hbm, ⟨41, _⟩ => ⟨S128, .i1⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i32⟩
  | .hbm, ⟨46, _⟩ => ⟨S128, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S_, .i32⟩
  | .hbm, ⟨52, _⟩ => ⟨S1x128, .i32⟩
  | .hbm, ⟨53, _⟩ => ⟨S1x128, .i1⟩
  | .hbm, ⟨54, _⟩ => ⟨S128x128, .i1⟩
  | .hbm, ⟨55, _⟩ => ⟨S128x128, .i1⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S128x128, .i32⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i1⟩
  | .hbm, ⟨70, _⟩ => ⟨S_, .i32⟩
  | .hbm, ⟨71, _⟩ => ⟨S128x128, .i32⟩
  | .hbm, ⟨72, _⟩ => ⟨S128x128, .i1⟩
  | .hbm, ⟨73, _⟩ => ⟨S_, .i32⟩
  | .hbm, ⟨74, _⟩ => ⟨S_, .i1⟩
  | .hbm, ⟨75, _⟩ => ⟨S128x128, .i1⟩
  | .hbm, ⟨76, _⟩ => ⟨S128x128, .i1⟩
  | .hbm, ⟨77, _⟩ => ⟨S128x128, .i1⟩
  | .hbm, ⟨78, _⟩ => ⟨S128x128, .i32⟩
  | .hbm, ⟨79, _⟩ => ⟨S128x128, .i32⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i1⟩
  | .hbm, ⟨84, _⟩ => ⟨S128x128, .i1⟩
  | .hbm, ⟨85, _⟩ => ⟨S2x16x128x128, .f32⟩
  | .hbm, ⟨86, _⟩ => ⟨S2x16x128x128, .bf16⟩
  | .hbm, ⟨87, _⟩ => ⟨S2x16x128x128, .f32⟩
  | .hbm, ⟨88, _⟩ => ⟨S_, .f32⟩
  | .hbm, ⟨89, _⟩ => ⟨S2x16x128x128, .f32⟩
  | .hbm, ⟨90, _⟩ => ⟨S2x16x128x128, .f32⟩
  | .hbm, ⟨91, _⟩ => ⟨S1x1x128x128, .i1⟩
  | .hbm, ⟨92, _⟩ => ⟨S_, .f32⟩
  | .hbm, ⟨93, _⟩ => ⟨S_, .f32⟩
  | .hbm, ⟨94, _⟩ => ⟨S2x16x128x128, .i1⟩
  | .hbm, ⟨95, _⟩ => ⟨S2x16x128x128, .f32⟩
  | .hbm, ⟨96, _⟩ => ⟨S2x16x128x128, .f32⟩
  | .hbm, ⟨97, _⟩ => ⟨S_, .f32⟩
  | .hbm, ⟨98, _⟩ => ⟨S2x16x128, .f32⟩
  | .hbm, ⟨99, _⟩ => ⟨S2x16x128x1, .f32⟩
  | .hbm, ⟨100, _⟩ => ⟨S2x16x128x128, .f32⟩
  | .hbm, ⟨101, _⟩ => ⟨S2x16x128x128, .f32⟩
  | .hbm, ⟨102, _⟩ => ⟨S2x16x128x128, .f32⟩
  | .hbm, ⟨103, _⟩ => ⟨S_, .i1⟩
  | .hbm, ⟨104, _⟩ => ⟨S128, .i1⟩
  | .hbm, ⟨105, _⟩ => ⟨S1x1x128x1, .i1⟩
  | .hbm, ⟨106, _⟩ => ⟨S_, .f32⟩
  | .hbm, ⟨107, _⟩ => ⟨S2x16x128, .f32⟩
  | .hbm, ⟨108, _⟩ => ⟨S2x16x128x1, .f32⟩
  | .hbm, ⟨109, _⟩ => ⟨S_, .f32⟩
  | .hbm, ⟨110, _⟩ => ⟨S_, .f32⟩
  | .hbm, ⟨111, _⟩ => ⟨S2x16x128x1, .i1⟩
  | .hbm, ⟨112, _⟩ => ⟨S2x16x128x1, .f32⟩
  | .hbm, ⟨113, _⟩ => ⟨S2x16x128x1, .f32⟩
  | .hbm, ⟨114, _⟩ => ⟨S2x16x128x128, .f32⟩
  | .hbm, ⟨115, _⟩ => ⟨S2x16x128x128, .f32⟩
  | .hbm, ⟨116, _⟩ => ⟨S1x1x128x1, .i1⟩
  | .hbm, ⟨117, _⟩ => ⟨S_, .f32⟩
  | .hbm, ⟨118, _⟩ => ⟨S_, .f32⟩
  | .hbm, ⟨119, _⟩ => ⟨S2x16x128x128, .i1⟩
  | .hbm, ⟨120, _⟩ => ⟨S2x16x128x128, .f32⟩
  | .hbm, ⟨121, _⟩ => ⟨S2x16x128x128, .f32⟩
  | .hbm, ⟨122, _⟩ => ⟨S2x128x16x64, .f32⟩
  | .hbm, ⟨123, _⟩ => ⟨S2x16x64x128, .f32⟩
  | .hbm, ⟨124, _⟩ => ⟨S2x128x16x64, .f32⟩
  | .hbm, ⟨125, _⟩ => ⟨S2x128x1024, .f32⟩
  | .hbm, ⟨126, _⟩ => ⟨S1024x512, .f32⟩
  | .hbm, ⟨127, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Cells.lean ====
/-
  THE EXCHANGE'S VOCABULARY. Four devices sit on the corners of a square; a device exchanges first with the partner whose
  number differs from its own in the low bit, then with the one whose number completes its own to three. Each exchange
  moves three pieces of the partial result (rows of one batch: 128, 64 and 64 of them), one slot of the send scratch and
  one slot of the receive scratch each. This module names the partners, the slots and the semaphore cells, states the
  schedule of the exchange over ARBITRARY sent pieces, and tabulates it.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Rounds.Family
public import Idealize.ShloMosaic.Lib.Pipeline.Regions
public import Idealize.ShloMosaic.Lib.Pipeline.RegionTalk
public import Idealize.ShloMosaic.Lib.Tactic

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's own cells beside the exchange's, whose duties are told apart by a Boolean. -/
abbrev UX : Type := URounds (GSem nD τ sig) Bool
abbrev UU : Type := UR sig nD τ × UX

local notation "𝕄" => MT nD τ sig Unit (Elt F) ℕ UU ℕ

abbrev EP : Emb (UR sig nD τ) (MT nD τ sig Unit (Elt F) ℕ UU ℕ) := embL
abbrev ER : Emb UX (MT nD τ sig Unit (Elt F) ℕ UU ℕ) := embR

/-! ## Partners -/

set_option backward.proofsInPublic true in
/-- The partner of the first exchange: 0 ↔ 1, 2 ↔ 3. -/
def near (c : Dev nD) : Dev nD := ⟨if c.val % 2 = 0 then c.val + 1 else c.val - 1, by revert c; decide⟩
set_option backward.proofsInPublic true in
/-- The partner of the second exchange: 0 ↔ 3, 1 ↔ 2. -/
def far (c : Dev nD) : Dev nD := ⟨3 - c.val, by revert c; decide⟩

theorem near_near (c : Dev nD) : near (near c) = c := by revert c; decide
theorem far_far (c : Dev nD) : far (far c) = c := by revert c; decide

/-- The partner a piece is exchanged with: pieces 0, 1, 2 go to the near one, pieces 3, 4, 5 to the far one. -/
def peer (j : Fin 6) (c : Dev nD) : Dev nD := if j.val < 3 then near c else far c
theorem peer_peer (j : Fin 6) (c : Dev nD) : peer j (peer j c) = c := by revert c j; decide

theorem dev1 (c : Dev nD) : (⟨k0_dev1 c, k0_dev1_lt c⟩ : Dev nD) = near c := by revert c; decide
theorem dev2 (c : Dev nD) : (⟨k0_dev2 c, k0_dev2_lt c⟩ : Dev nD) = far c := by revert c; decide
theorem dev3 (c : Dev nD) : (⟨k0_dev3 c, k0_dev3_lt c⟩ : Dev nD) = peer 0 c := by revert c; decide
theorem dev4 (c : Dev nD) : (⟨k0_dev4 c, k0_dev4_lt c⟩ : Dev nD) = peer 1 c := by revert c; decide
theorem dev5 (c : Dev nD) : (⟨k0_dev5 c, k0_dev5_lt c⟩ : Dev nD) = peer 2 c := by revert c; decide
theorem dev6 (c : Dev nD) : (⟨k0_dev6 c, k0_dev6_lt c⟩ : Dev nD) = peer 3 c := by revert c; decide
theorem dev7 (c : Dev nD) : (⟨k0_dev7 c, k0_dev7_lt c⟩ : Dev nD) = peer 4 c := by revert c; decide
theorem dev8 (c : Dev nD) : (⟨k0_dev8 c, k0_dev8_lt c⟩ : Dev nD) = peer 5 c := by revert c; decide

/-! ## Slots -/

/-- The rectangle of a scratch buffer that piece `j` occupies. -/
abbrev box : Fin 6 → Rect S2x3x128x512
  | 0 => Rect.unit (s := S2x3x128x512) ![0, 0, 0, 0] S1x1x128x512.size inb_S2x3x128x512_S1x1x128x512_0_0_0_0
  | 1 => Rect.unit (s := S2x3x128x512) ![0, 1, 0, 0] S1x1x64x512.size inb_S2x3x128x512_S1x1x64x512_0_1_0_0
  | 2 => Rect.unit (s := S2x3x128x512) ![0, 2, 0, 0] S1x1x64x512.size inb_S2x3x128x512_S1x1x64x512_0_2_0_0
  | 3 => Rect.unit (s := S2x3x128x512) ![1, 0, 0, 0] S1x1x128x512.size inb_S2x3x128x512_S1x1x128x512_1_0_0_0
  | 4 => Rect.unit (s := S2x3x128x512) ![1, 1, 0, 0] S1x1x64x512.size inb_S2x3x128x512_S1x1x64x512_1_1_0_0
  | 5 => Rect.unit (s := S2x3x128x512) ![1, 2, 0, 0] S1x1x64x512.size inb_S2x3x128x512_S1x1x64x512_1_2_0_0

/-- A slot's shape once its two leading unit axes are dropped. -/
abbrev flat : Fin 6 → Shape
  | 0 => S128x512 | 1 => S64x512 | 2 => S64x512 | 3 => S128x512 | 4 => S64x512 | 5 => S64x512

theorem box_stride (j : Fin 6) : ∀ a, (box j).stride a = 1 := by fin_cases j <;> exact fun _ => rfl
theorem box_squeezes (j : Fin 6) : (box j).shape.Squeezes (flat j) := by
  fin_cases j <;> first | exact squeezes_S1x1x128x512_S128x512 | exact squeezes_S1x1x64x512_S64x512

/-- Slot `j` of a scratch buffer as the transfers address it. -/
abbrev slot (M : Memref sig .tc .vmem S2x3x128x512 .bf16) (j : Fin 6) : Memref sig .tc .vmem (flat j) .bf16 :=
  (M.slice (box j) (box_stride j)).squeeze (flat j) (box_squeezes j)

abbrev sendM : Memref sig .tc .vmem S2x3x128x512 .bf16 := Memref.whole cc0_scratch0
abbrev recvM : Memref sig .tc .vmem S2x3x128x512 .bf16 := Memref.whole cc0_scratch1

/-- What a device sends as piece `j`: the contents of that piece's rectangle. -/
abbrev Piece (F : FTy → Type) (j : Fin 6) : Type := (box j).shape.Idx → Elt F .bf16

/-- The receive scratch holding the piece `v` in slot `j` (elsewhere: nothing chosen). -/
def landed (j : Fin 6) (v : Piece F j) : recvM.view.ty.Contents (Elt F) :=
  recvM.view.writes (Elt F) recvM.view.junk [⟨box j, v⟩]

/-- Device `c`'s slot `j` of a scratch buffer, at contents `f`. -/
abbrev sendPts (j : Fin 6) (c : Dev nD) (f : sendM.view.ty.Contents (Elt F)) : sProp 𝕄 :=
  (slot sendM j).view.loc (c : Thread nD τ) ↦[(slot sendM j).view.set]{fullShare} f
abbrev recvPts (j : Fin 6) (c : Dev nD) (f : recvM.view.ty.Contents (Elt F)) : sProp 𝕄 :=
  (slot recvM j).view.loc (c : Thread nD τ) ↦[(slot recvM j).view.set]{fullShare} f

/-! ## Cells -/

/-- The departure and arrival semaphores of piece `j`. -/
abbrev sendSem (j : Fin 6) : DmaSem sig := ⟨6 + j.val, by have := j.isLt; show _ < 18; omega⟩
abbrev recvSem (j : Fin 6) : DmaSem sig := ⟨12 + j.val, by have := j.isLt; show _ < 18; omega⟩

abbrev barCell (c : Dev nD) : GSem nD τ sig := ((c : Thread nD τ), .reg barrier0)
abbrev sendCell (j : Fin 6) (c : Dev nD) : GSem nD τ sig := ((c : Thread nD τ), .dma (sendSem j))
abbrev recvCell (j : Fin 6) (c : Dev nD) : GSem nD τ sig := ((c : Thread nD τ), .dma (recvSem j))

/-- What a transfer of piece `j` credits. -/
def amt (j : Fin 6) : ℕ := (slot recvM j).view.dmaCredit
theorem amt_pos (j : Fin 6) : 0 < amt j := by
  fin_cases j <;> exact View.dmaCredit_pos _ (by decide)
theorem amt_send (j : Fin 6) : (slot sendM j).view.dmaCredit = amt j := by
  fin_cases j <;> rfl

end Cert.KernelIdeal.Exchange

end
-- ==== Proof.Schedule.lean ====
/-
  THE EXCHANGE'S SCHEDULE, over arbitrary sent pieces. Every cell has one round. A device's barrier cell is credited by both
  partners: each hands over the receive slots it will be sent into by that device, and that its arrival cells are open. An
  arrival cell is credited by the partner's transfer, which hands the slot back holding the partner's piece; a departure
  cell by the device's own transfer, which hands its send slot back.
-/
module

public import proofs.«01_k».proof.Proof.Cells

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sent : Dev nD → (j : Fin 6) → Piece F j)

/-! ## Payloads -/

/-- Slot `j` of device `q`'s receive scratch, at contents not chosen, and that its arrival cell is open. -/
def lent (j : Fin 6) (q : Dev nD) : sProp 𝕄 := iprop((∃ f, recvPts j q f) ∗ reached ER (recvCell j q) 0)

/-- What a device's barrier cell brings it: the near partner's slots 0, 1, 2 (`false`), the far partner's 3, 4, 5 (`true`). -/
def barPay (c : Dev nD) : Bool → sProp 𝕄
  | false => iprop(lent 0 (near c) ∗ lent 1 (near c) ∗ lent 2 (near c))
  | true => iprop(lent 3 (far c) ∗ lent 4 (far c) ∗ lent 5 (far c))
/-- What an arrival cell brings: the slot, holding what the partner sent. -/
def recvPay (j : Fin 6) (c : Dev nD) : sProp 𝕄 := recvPts j c (landed j (sent (peer j c) j))
/-- What a departure cell brings: the send slot back. -/
def sendPay (j : Fin 6) (c : Dev nD) : sProp 𝕄 := iprop(∃ f, sendPts j c f)

instance lent_storable (j : Fin 6) (q : Dev nD) : BI.Storable (upEmb : UEmb _ 𝕄) (lent (F := F) j q) := by unfold lent; infer_instance
instance barPay_storable (c : Dev nD) (d : Bool) : BI.Storable (upEmb : UEmb _ 𝕄) (barPay (F := F) c d) := by
  cases d <;> (unfold barPay; infer_instance)
instance recvPay_storable (j : Fin 6) (c : Dev nD) : BI.Storable (upEmb : UEmb _ 𝕄) (recvPay sent j c) := by unfold recvPay; infer_instance
instance sendPay_storable (j : Fin 6) (c : Dev nD) : BI.Storable (upEmb : UEmb _ 𝕄) (sendPay (F := F) j c) := by unfold sendPay; infer_instance

/-- The piece an exchange semaphore belongs to. -/
def pieceOf (n : ℕ) : Fin 6 := ⟨n % 6, Nat.mod_lt _ (by decide)⟩
theorem pieceOf_send (j : Fin 6) : pieceOf (6 + j.val) = j := by revert j; decide
theorem pieceOf_recv (j : Fin 6) : pieceOf (12 + j.val) = j := by revert j; decide

/-- The duties of a semaphore's one round: two on the barrier, one on a departure or arrival semaphore. -/
def dutiesOf : SemLoc sig → Finset Bool
  | .reg _ => Finset.univ
  | .dma s => if 6 ≤ s.val then {false} else ∅

/-- What one duty credits a semaphore. -/
def amountOf : SemLoc sig → ℕ
  | .reg _ => 1
  | .dma s => amt (pieceOf s.val)

/-- What one duty of a device's semaphore hands it. -/
def payOf (c : Dev nD) (d : Bool) : SemLoc sig → sProp 𝕄
  | .reg _ => barPay c d
  | .dma s => if 12 ≤ s.val then recvPay sent (pieceOf s.val) c else sendPay (pieceOf s.val) c

def sched : Rounds.Schedule (GSem nD τ sig) Bool 𝕄 where
  duties g r := if r = 0 ∧ g.1.2 = .tc then dutiesOf g.2 else ∅
  unitless _ := False
  amount g _ _ := amountOf g.2
  payload g _ d := payOf sent g.1.1 d g.2
  amount_pos g _ _ _ := by
    unfold amountOf
    split
    · exact Nat.one_pos
    · exact amt_pos _

instance sched_storable (g : GSem nD τ sig) (r : ℕ) (d : Bool) : BI.Storable (upEmb : UEmb _ 𝕄) ((sched sent).payload g r d) := by
  show BI.Storable upEmb (payOf sent g.1.1 d g.2)
  unfold payOf
  (repeat' split) <;> infer_instance

/-! ## The tables -/

section Tables
variable (j : Fin 6) (c : Dev nD)

theorem duties_bar : (sched sent).duties (barCell c) 0 = Finset.univ := by dsimp only [sched]; rw [if_pos ⟨rfl, rfl⟩]; rfl
theorem duties_send : (sched sent).duties (sendCell j c) 0 = {false} := by
  dsimp only [sched]; rw [if_pos ⟨rfl, rfl⟩]; exact if_pos (Nat.le_add_right _ _)
theorem duties_recv : (sched sent).duties (recvCell j c) 0 = {false} := by
  dsimp only [sched]; rw [if_pos ⟨rfl, rfl⟩]; exact if_pos (by show 6 ≤ 12 + j.val; omega)
theorem duties_later (g : GSem nD τ sig) : ∀ r, 1 ≤ r → (sched sent).duties g r = ∅ := fun r hr => by
  dsimp only [sched]; exact if_neg fun h => by omega

theorem amount_bar (d : Bool) : (sched sent).amount (barCell c) 0 d = 1 := rfl
theorem amount_send (d : Bool) : (sched sent).amount (sendCell j c) 0 d = amt j := by
  show amt (pieceOf (6 + j.val)) = _; rw [pieceOf_send]
theorem amount_recv (d : Bool) : (sched sent).amount (recvCell j c) 0 d = amt j := by
  show amt (pieceOf (12 + j.val)) = _; rw [pieceOf_recv]

theorem expect_bar : (sched sent).expect (barCell c) 0 = 2 := by
  unfold Schedule.expect Schedule.amountOf; rw [duties_bar]; rfl
theorem expect_send : (sched sent).expect (sendCell j c) 0 = amt j := by
  unfold Schedule.expect Schedule.amountOf; rw [duties_send, Finset.sum_singleton, amount_send]
theorem expect_recv : (sched sent).expect (recvCell j c) 0 = amt j := by
  unfold Schedule.expect Schedule.amountOf; rw [duties_recv, Finset.sum_singleton, amount_recv]

theorem payload_bar (d : Bool) : (sched sent).payload (barCell c) 0 d = barPay c d := rfl
theorem payload_send (d : Bool) : (sched sent).payload (sendCell j c) 0 d = sendPay j c := by
  show (if 12 ≤ 6 + j.val then recvPay sent (pieceOf (6 + j.val)) c else sendPay (pieceOf (6 + j.val)) c) = _
  rw [if_neg (by have := j.isLt; omega), pieceOf_send]
theorem payload_recv (d : Bool) : (sched sent).payload (recvCell j c) 0 d = recvPay sent j c := by
  show (if 12 ≤ 12 + j.val then recvPay sent (pieceOf (12 + j.val)) c else sendPay (pieceOf (12 + j.val)) c) = _
  rw [if_pos (Nat.le_add_right _ _), pieceOf_recv]

theorem rest_bar : bigSep ((sched sent).duties (barCell c) 0 \ ∅) (fun d => (sched sent).payload (barCell c) 0 d)
    = iprop(barPay c false ∗ barPay c true) := by
  rw [Finset.sdiff_empty, duties_bar]
  exact bigSep_univ_eq_bigSepL [false, true] (by decide) (by decide) _
theorem rest_send : bigSep ((sched sent).duties (sendCell j c) 0 \ ∅) (fun d => (sched sent).payload (sendCell j c) 0 d) = sendPay j c := by
  rw [Finset.sdiff_empty, duties_send, bigSep_singleton, payload_send]
theorem rest_recv : bigSep ((sched sent).duties (recvCell j c) 0 \ ∅) (fun d => (sched sent).payload (recvCell j c) 0 d) = recvPay sent j c := by
  rw [Finset.sdiff_empty, duties_recv, bigSep_singleton, payload_recv]

end Tables

/-! ## What a device owes, and the levels -/

/-- What device `c` still owes its partners' arrival cells before it sends piece `k`. -/
def debt (c : Dev nD) (k : ℕ) : CellTallies nD τ sig Unit :=
  ∑ j ∈ Finset.univ.filter (fun j : Fin 6 => k ≤ j.val), tallyAt (recvCell j (peer j c)) () (amt j)

theorem debt_peel (c : Dev nD) (j : Fin 6) :
    debt c j.val = debt c (j.val + 1) + tallyAt (recvCell j (peer j c)) () (amt j) := by
  unfold debt
  rw [show Finset.univ.filter (fun i : Fin 6 => j.val ≤ i.val) = insert j (Finset.univ.filter (fun i : Fin 6 => j.val + 1 ≤ i.val)) from by
      ext i; simp only [Finset.mem_filter, Finset.mem_univ, true_and, Finset.mem_insert, Fin.ext_iff]; omega,
    Finset.sum_insert (by simp), add_comm]
theorem debt_done (c : Dev nD) : debt c 6 = 0 := by
  unfold debt; exact Finset.sum_eq_zero fun j hj => absurd (Finset.mem_filter.mp hj).2 (by have := j.isLt; omega)

theorem debt_pos {c : Dev nD} {k : ℕ} {g : GSem nD τ sig} {u : Unit} (h : 0 < debt c k g u) :
    ∃ j : Fin 6, k ≤ j.val ∧ g = recvCell j (peer j c) := by
  by_contra hn
  push Not at hn
  refine absurd h (Nat.not_lt.mpr (Nat.le_of_eq ?_))
  unfold debt
  rw [Finset.sum_apply, Finsupp.finset_sum_apply]
  exact Finset.sum_eq_zero fun j hj => by
    rw [tallyAt_apply, if_neg fun hh => hn j (Finset.mem_filter.mp hj).2 hh.1]

/-- All a device owes when the kernel starts: a unit to each partner's barrier cell, and its six pieces. -/
def due (c : Dev nD) : CellTallies nD τ sig Unit := (debt c 0 + tallyAt (barCell (far c)) () 1) + tallyAt (barCell (near c)) () 1

def L (g : GSem nD τ sig) : Finset Unit := if g.1.2 = .tc then {()} else ∅
/-- Barrier cells at 1, the first exchange's arrival cells at 2, the second's at 3, all others at 0. -/
def lv (g : GSem nD τ sig) (_ : Unit) : ℕ := match g.2 with
  | .reg _ => 1
  | .dma s => if 15 ≤ s.val then 3 else if 12 ≤ s.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (j : Fin 6) (c : Dev nD) : lv (recvCell j c) () = if 3 ≤ j.val then 3 else 2 := by
  revert j; intro j; show (if 15 ≤ 12 + j.val then 3 else if 12 ≤ 12 + j.val then 2 else 0) = _
  by_cases h : 3 ≤ j.val
  · rw [if_pos (by omega), if_pos h]
  · rw [if_neg (by omega), if_neg h, if_pos (by omega)]

/-- A wait at a level below everything still owed. -/
theorem mayWait_debt (c : Dev nD) (sm : SemLoc sig) (k : ℕ) (h : ∀ j : Fin 6, k ≤ j.val → lv ((c : Thread nD τ), sm) () < if 3 ≤ j.val then 3 else 2) :
    (levAts L lv : sProp 𝕄) ⊢ MayWait (c : Thread nD τ) sm () (debt c k) :=
  MayOwe.of_cut (L := L) (lev := lv) (lv ((c : Thread nD τ), sm) ())
    (fun p hp => by rw [Finset.mem_singleton.mp hp, L_tc]; exact Finset.mem_singleton_self _)
    (fun g u hg => by obtain ⟨j, _, rfl⟩ := debt_pos hg; rw [L_tc]; exact Finset.mem_singleton_self _)
    (fun p hp => by rw [Finset.mem_singleton.mp hp])
    (fun g u hg => by obtain ⟨j, hj, rfl⟩ := debt_pos hg; rw [show u = () from rfl, lv_recv]; exact h j hj)

end Cert.KernelIdeal.Exchange

end
-- ==== Proof.Steps.lean ====
/-
  THE EXCHANGE'S STEPS, each proved once for every piece: signalling a partner's barrier cell, waiting on the own one,
  sending a piece, waiting for a piece, waiting for the send slot to come back.
-/
module

public import proofs.«01_k».proof.Proof.Schedule

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (sent : Dev nD → (j : Fin 6) → Piece F j)

/-! ## All the cells -/

/-- The twelve departure and arrival semaphores. -/
abbrev osem (k : Fin 12) : SemLoc sig := .dma ⟨6 + k.val, by have := k.isLt; show _ < 18; omega⟩
theorem osem_inj : Function.Injective osem := by decide

def barEmb : Dev nD ↪ GSem nD τ sig := ⟨fun c => barCell c, fun _ _ h => congrArg (fun g : GSem nD τ sig => g.1.1) h⟩
def ownEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩
abbrev barCells : Finset (GSem nD τ sig) := Finset.univ.map barEmb
abbrev ownCells : Finset (GSem nD τ sig) := Finset.univ.map ownEmb

theorem mem_bar (c : Dev nD) : barCell c ∈ (barCells ∪ ownCells : Finset (GSem nD τ sig)) :=
  Finset.mem_union_left _ (Finset.mem_map_of_mem barEmb (Finset.mem_univ c))
theorem mem_send (j : Fin 6) (c : Dev nD) : sendCell j c ∈ (barCells ∪ ownCells : Finset (GSem nD τ sig)) :=
  Finset.mem_union_right _ (Finset.mem_map_of_mem ownEmb (Finset.mem_univ (c, (⟨j.val, by omega⟩ : Fin 12))))
theorem mem_recv (j : Fin 6) (c : Dev nD) : recvCell j c ∈ (barCells ∪ ownCells : Finset (GSem nD τ sig)) := by
  refine Finset.mem_union_right _ (Finset.mem_map.mpr ⟨(c, (⟨6 + j.val, by omega⟩ : Fin 12)), Finset.mem_univ _, ?_⟩)
  show ((c : Thread nD τ), osem ⟨6 + j.val, _⟩) = _
  refine congrArg (fun s : DmaSem sig => (((c : Thread nD τ), SemLoc.dma s) : GSem nD τ sig)) (Fin.ext ?_)
  show 6 + (6 + j.val) = 12 + j.val; omega

/-- Every cell's invariant, at the names the launch allocated them at. -/
def known (K : GSem nD τ sig → ℕ) : sProp 𝕄 := bigSep (barCells ∪ ownCells) fun g => cellInv ER (sched sent) (K g) g
instance known_persistent (K : GSem nD τ sig → ℕ) : BI.Persistent (known sent K) := by unfold known; infer_instance

theorem known_at (K : GSem nD τ sig → ℕ) {g : GSem nD τ sig} (hg : g ∈ (barCells ∪ ownCells : Finset (GSem nD τ sig))) :
    known sent K ⊢ cellInv ER (sched sent) (K g) g := bigSep_elim hg

/-- Device `c` owes `O`, whatever waits it has recorded. -/
def owing (c : Dev nD) (O : CellTallies nD τ sig Unit) : sProp 𝕄 := iprop(∃ W, owes (c : Thread nD τ) O W)

abbrev 𝒱₀ : Variants := Variants.none

/-! ## What a transfer leaves -/

/-- The destination slot after the transfer of a slot into which the piece `v` was stored holds `v`, and the rest of it
    is nobody's business. -/
theorem landed_congr (j : Fin 6) (v : Piece F j) (c c' : Dev nD) (f : sendM.view.ty.Contents (Elt F)) (fd : recvM.view.ty.Contents (Elt F)) :
    (recvPts j c ((slot recvM j).view.write (Elt F) fd ((slot sendM j).view.read (Elt F) (sendM.view.writes (Elt F) f [⟨box j, v⟩])) Finset.univ) : sProp 𝕄)
      = recvPts j c (landed j v) := by
  refine pointsTo_congr fun i hi => ?_
  obtain ⟨x, -, rfl⟩ := Finset.mem_map.mp hi
  rw [View.write_emb_of_mem _ _ (Finset.mem_univ x)]
  unfold landed
  have h1 := View.read_writes_cons_emb (Val := Elt F) sendM.view f (box j) v [] (Shape.reshapeEquiv (box_squeezes j).numel_eq x)
  have h2 := View.read_writes_cons_emb (Val := Elt F) recvM.view recvM.view.junk (box j) v [] (Shape.reshapeEquiv (box_squeezes j).numel_eq x)
  exact h1.trans h2.symm

section Rules

variable {defs : Defs nD τ sig (Elt F) Λ₀} (K : GSem nD τ sig → ℕ) (c : Dev nD)

/-- Signal the near or far partner's barrier cell: its duty is paid with the own slots it will be sent into. -/
theorem signal_step (p d : Dev nD) (hd : d = p) (b : Bool) (O : CellTallies nD τ sig Unit)
    {α : Type} {Q : α → sProp 𝕄} {k : PUnit.{1} → Prog (TpuEff nD τ sig (Elt F) Λ₀ .tc) α} :
    iprop(known sent K ∗ owing c (O + tallyAt (barCell p) () 1) ∗ dutyTok ER (barCell p) 0 b ∗ barPay p b ∗ reached ER (barCell p) 0)
      ⊢ iprop((owing c O -∗ wp frame (wpE defs 𝒱₀ c none) Set.univ (k ⟨⟩) Q)
          -∗ wp frame (wpE defs 𝒱₀ c none) Set.univ (.op (.semSignal (Dev.tc d) barrier0 1) k) Q) := by
  subst hd
  unfold owing
  iintro ⟨#HK, ⟨%W, HO⟩, Ht, Hp, #Hr⟩ Hk
  iapply (Rounds.wp_signal 𝒱₀ ER (sched sent) (c : Thread nD τ) none (dst := (d : Thread nD τ)) (sem := barrier0) (r := 0) (d := b) (κ := K (barCell d))
      (by rw [duties_bar]; exact Finset.mem_univ _) (amount_bar sent d b) () O rfl) $$ [HO Ht Hp]
  · isplitr; · iapply (known_at sent K (mem_bar d)); iexact HK
    isplitl [HO]; · iexact HO
    isplitl [Ht]; · iexact Ht
    isplitl [Hp]; · rw [payload_bar]; iexact Hp
    iexact Hr
  iintro HO
  iapply Hk
  iexists W; iexact HO

/-- Wait for both partners' units, owing the six pieces: their slots come. -/
theorem barrier_step {α : Type} {Q : α → sProp 𝕄} {k : PUnit.{1} → Prog (TpuEff nD τ sig (Elt F) Λ₀ .tc) α} :
    iprop(known sent K ∗ levAts L lv ∗ owing c (debt c 0) ∗ cred (tallyAt (barCell c) () 2) ∗ atPos ER (barCell c) 0 ∅ 0)
      ⊢ iprop(((owing c (debt c 0) ∗ atPos ER (barCell c) 1 ∅ 0 ∗ barPay c false ∗ barPay c true)
            -∗ wp frame (wpE defs 𝒱₀ c none) Set.univ (k ⟨⟩) Q)
          -∗ wp frame (wpE defs 𝒱₀ c none) Set.univ (.op (.semWait barrier0 2) k) Q) := by
  unfold owing
  iintro ⟨#HK, #Hlev, ⟨%W, HO⟩, Hc, Hat⟩ Hk
  iapply (Rounds.wp_wait_rest_token 𝒱₀ ER (sched sent) (c : Thread nD τ) none (κ := K (barCell c))
      (wpE_semWait_eq 𝒱₀ (c : Thread nD τ) none Set.univ) (Set.mem_univ _) () (O := debt c 0) (W := W) (R := 0) (m := 0) (T := ∅)
      ((Nat.zero_add 2).trans (expect_bar sent c).symm)) $$ [Hc HO Hat]
  · isplitr; · iapply (known_at sent K (mem_bar c)); iexact HK
    isplitl [Hc]; · iexact Hc
    isplitl [HO]; · iexact HO
    isplitr
    · iapply (mayWait_debt c (.reg barrier0) 0 (fun j _ => by show 1 < _; split <;> decide)); iexact Hlev
    iexact Hat
  iintro ⟨HO, Hat, -, Hpay⟩
  ihave Hp := (Entails.of_eq (rest_bar sent c)) $$ Hpay
  icases Hp with ⟨Hp0, Hp1⟩
  iapply Hk
  isplitl [HO]; · iexists _; iexact HO
  isplitl [Hat]; · iexact Hat
  isplitl [Hp0] <;> iassumption

/-- Send piece `j`: the slot into which it was stored goes, and the partner's slot, which the barrier brought. -/
theorem send_step (j : Fin 6) (d : Dev nD) (hd : d = peer j c) (s₁ s₂ : DmaSem sig) (h₁ : s₁ = sendSem j) (h₂ : s₂ = recvSem j)
    (f : sendM.view.ty.Contents (Elt F))
    {hsc : (slot recvM j).view.ref.isScScratch = false}
    {hsrc : (slot sendM j).view.WordExact} {hdst : (slot recvM j).view.WordExact}
    {hsem : DmaTarget.Typed .vmem (.dma s₂) (.remote (Dev.tc d : Thread nD τ) (slot recvM j) (.dma s₁) hsc)}
    {α : Type} {Q : α → sProp 𝕄} {k : PUnit.{1} → Prog (TpuEff nD τ sig (Elt F) Λ₀ .tc) α} :
    iprop(known sent K ∗ owing c (debt c j.val) ∗ sendPts j c (sendM.view.writes (Elt F) f [⟨box j, sent c j⟩]) ∗ lent j (peer j c)
        ∗ dutyTok ER (sendCell j c) 0 false ∗ reached ER (sendCell j c) 0 ∗ dutyTok ER (recvCell j (peer j c)) 0 false)
      ⊢ iprop(((owing c (debt c (j.val + 1)) ∗ cred (tallyAt (sendCell j c) () (amt j)))
            -∗ wp frame (wpE defs 𝒱₀ c none) Set.univ (k ⟨⟩) Q)
          -∗ wp frame (wpE defs 𝒱₀ c none) Set.univ
              (.op (.enqueueDma (slot sendM j) (.remote (Dev.tc d) (slot recvM j) (.dma s₁) hsc) (.dma s₂) hsrc hdst hsem) k) Q) := by
  subst hd h₁ h₂
  unfold owing lent
  iintro ⟨#HK, ⟨%W, HO⟩, Hs, ⟨⟨%fd, Hd⟩, #Hrd⟩, Ht, #Hr, Htd⟩ Hk
  iapply (Rounds.wp_send_pointsTo 𝒱₀ ER (sched sent) (c : Thread nD τ) none (c' := (peer j c : Thread nD τ)) (src := slot sendM j) (dst := slot recvM j)
      (sS := .dma (sendSem j)) (sem := .dma (recvSem j)) (q := fullShare) (fs := sendM.view.writes (Elt F) f [⟨box j, sent c j⟩])
      (κ₁ := K (sendCell j c)) (κ₂ := K (recvCell j (peer j c))) (r₁ := 0) (r₂ := 0) (d₁ := false) (d₂ := false) (fd := fd)
      (by rw [duties_send]; exact Finset.mem_singleton_self _) (by rw [duties_recv]; exact Finset.mem_singleton_self _)
      () () (amt j) rfl (amount_send sent j c false) (amount_recv sent j (peer j c) false) (debt c (j.val + 1)) (debt_peel c j) (W := W)
      (by rw [payload_send]; unfold sendPay; iintro H; iexists _; iexact H)
      (by rw [payload_recv]; unfold recvPay; rw [peer_peer]; exact Entails.of_eq (landed_congr j (sent c j) (peer j c) c f fd))) $$ [Hs Hd HO Ht Htd]
  · isplitr; · iapply (known_at sent K (mem_send j c)); iexact HK
    isplitr; · iapply (known_at sent K (mem_recv j (peer j c))); iexact HK
    isplitl [Hs]; · iexact Hs
    isplitl [Hd]; · iexact Hd
    isplitl [HO]; · iexact HO
    isplitl [Ht]; · iexact Ht
    isplitr; · iexact Hr
    isplitl [Htd]; · iexact Htd
    iexact Hrd
  iintro ⟨Hc, HO⟩
  iapply Hk
  isplitl [HO]; · iexists W; iexact HO
  iexact Hc

/-- Wait for piece `j` from the partner, having sent the first `n` pieces. -/
theorem recv_step (j : Fin 6) (n : ℕ) (hn : ∀ i : Fin 6, n ≤ i.val → j.val < 3 ∧ 3 ≤ i.val)
    (v : Piece F j) (hv : sent (peer j c) j = v) (s : DmaSem sig) (hs : s = recvSem j)
    {sp : Space} {sh : Shape} {e : EltTy} (src : Memref sig .tc sp sh e)
    {hsrc : src.view.WordExact} {hdst : (slot recvM j).view.WordExact}
    {α : Type} {Q : α → sProp 𝕄} {k : PUnit.{1} → Prog (TpuEff nD τ sig (Elt F) Λ₀ .tc) α} :
    iprop(known sent K ∗ levAts L lv ∗ owing c (debt c n) ∗ cred (tallyAt (recvCell j c) () (amt j)) ∗ atPos ER (recvCell j c) 0 ∅ 0)
      ⊢ iprop(((owing c (debt c n) ∗ atPos ER (recvCell j c) 1 ∅ 0 ∗ recvPts j c (landed j v))
            -∗ wp frame (wpE defs 𝒱₀ c none) Set.univ (k ⟨⟩) Q)
          -∗ wp frame (wpE defs 𝒱₀ c none) Set.univ (.op (.waitDma2 s src (slot recvM j) hsrc hdst) k) Q) := by
  subst hs hv
  unfold owing
  iintro ⟨#HK, #Hlev, ⟨%W, HO⟩, Hc, Hat⟩ Hk
  iapply (Rounds.wp_wait_rest_token 𝒱₀ ER (sched sent) (c : Thread nD τ) none (κ := K (recvCell j c))
      (wpE_waitDma2_eq 𝒱₀ (c : Thread nD τ) none Set.univ) (Set.mem_univ _) () (O := debt c n) (W := W) (R := 0) (m := 0) (T := ∅)
      ((Nat.zero_add _).trans (expect_recv sent j c).symm)) $$ [Hc HO Hat]
  · isplitr; · iapply (known_at sent K (mem_recv j c)); iexact HK
    isplitl [Hc]; · iexact Hc
    isplitl [HO]; · iexact HO
    isplitr
    · iapply (mayWait_debt c (.dma (recvSem j)) n (fun i hi => by
        show lv (recvCell j c) () < _
        rw [lv_recv, if_neg (by have := (hn i hi).1; omega), if_pos (hn i hi).2]; decide)); iexact Hlev
    iexact Hat
  iintro ⟨HO, Hat, -, Hpay⟩
  ihave Hp := (Entails.of_eq (rest_recv sent j c)) $$ Hpay
  unfold recvPay
  iapply Hk
  isplitl [HO]; · iexists _; iexact HO
  isplitl [Hat] <;> iassumption

/-- Wait for the departure of piece `j`, with nothing left to send: the send slot comes back. -/
theorem sent_step (j : Fin 6) (s : DmaSem sig) (hs : s = sendSem j)
    {sp : Space} {sh : Shape} {e : EltTy} (src : Memref sig .tc sp sh e)
    {hsrc : src.view.WordExact} {hdst : (slot sendM j).view.WordExact}
    {α : Type} {Q : α → sProp 𝕄} {k : PUnit.{1} → Prog (TpuEff nD τ sig (Elt F) Λ₀ .tc) α} :
    iprop(known sent K ∗ owing c 0 ∗ cred (tallyAt (sendCell j c) () (amt j)) ∗ atPos ER (sendCell j c) 0 ∅ 0)
      ⊢ iprop(((owing c 0 ∗ atPos ER (sendCell j c) 1 ∅ 0 ∗ ∃ f, sendPts j c f)
            -∗ wp frame (wpE defs 𝒱₀ c none) Set.univ (k ⟨⟩) Q)
          -∗ wp frame (wpE defs 𝒱₀ c none) Set.univ (.op (.waitDma2 s src (slot sendM j) hsrc hdst) k) Q) := by
  subst hs
  unfold owing
  iintro ⟨#HK, ⟨%W, HO⟩, Hc, Hat⟩ Hk
  ihave Hc' := (Entails.of_eq (congrArg (fun n => (cred (tallyAt (sendCell j c) () n) : sProp 𝕄)) (amt_send j).symm)) $$ Hc
  iapply (Rounds.wp_wait_rest_token 𝒱₀ ER (sched sent) (c : Thread nD τ) none (κ := K (sendCell j c))
      (wpE_waitDma2_eq 𝒱₀ (c : Thread nD τ) none Set.univ) (Set.mem_univ _) () (O := 0) (W := W) (R := 0) (m := 0) (T := ∅)
      ((Nat.zero_add _).trans ((amt_send j).trans (expect_send sent j c).symm))) $$ [Hc' HO Hat]
  · isplitr; · iapply (known_at sent K (mem_send j c)); iexact HK
    isplitl [Hc']; · iexact Hc'
    isplitl [HO]; · iexact HO
    isplitr; · rw [MayWait_zero]; iempintro
    iexact Hat
  iintro ⟨HO, Hat, -, Hpay⟩
  ihave Hp := (Entails.of_eq (rest_send sent j c)) $$ Hpay
  unfold sendPay
  iapply Hk
  isplitl [HO]; · iexists _; iexact HO
  isplitl [Hat] <;> iassumption

end Rules

end Cert.KernelIdeal.Exchange

end
-- ==== Proof.Access.lean ====
/-
  LOADS AND STORES of the kernel body: of an operand held whole, of a slot of a scratch buffer, of one of the three
  chunks of the result; and the cutting of a scratch buffer and of the result into those parts.
-/
module

public import proofs.«01_k».proof.Proof.Steps

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The operands, the result and its chunks -/

abbrev xM : Memref sig .tc .vmem S2x128x512 .bf16 := Memref.whole cc0_stg0_0
abbrev wqM : Memref sig .tc .vmem S512x256 .bf16 := Memref.whole cc0_stg1_0
abbrev kM : Memref sig .tc .vmem S2x128x4x64 .bf16 := Memref.whole cc0_stg2_0
abbrev vM : Memref sig .tc .vmem S2x128x4x64 .bf16 := Memref.whole cc0_stg3_0
abbrev woM : Memref sig .tc .vmem S256x512 .bf16 := Memref.whole cc0_stg4_0
abbrev outM : Memref sig .tc .vmem S2x128x512 .f32 := Memref.whole cc0_stg5_0

/-- The three chunks of the result: all of batch 0, the first half of batch 1, its second half. -/
abbrev chunk : Fin 3 → Rect S2x128x512
  | 0 => Rect.unit (s := S2x128x512) ![0, 0, 0] S1x128x512.size inb_S2x128x512_S1x128x512_0_0_0
  | 1 => Rect.unit (s := S2x128x512) ![1, 0, 0] S1x64x512.size inb_S2x128x512_S1x64x512_1_0_0
  | 2 => Rect.unit (s := S2x128x512) ![1, 64, 0] S1x64x512.size inb_S2x128x512_S1x64x512_1_64_0

/-- What a chunk of the result holds. -/
abbrev Chunk (F : FTy → Type) (k : Fin 3) : Type := (chunk k).shape.Idx → Elt F .f32

/-- Device `c` holds chunk `k` of the result, with whatever it holds. -/
abbrev outAny (k : Fin 3) (c : Dev nD) (f : outM.view.ty.Contents (Elt F)) : sProp 𝕄 :=
  (outM.access (chunk k)).loc (c : Thread nD τ) ↦[(outM.access (chunk k)).set]{fullShare} f
/-- Device `c` holds chunk `k` of the result, and it is `v`. -/
abbrev outPts (k : Fin 3) (c : Dev nD) (v : Chunk F k) : sProp 𝕄 :=
  iprop(∃ f, outAny k c (outM.view.writes (Elt F) f [⟨chunk k, v⟩]))

section Rules

variable {defs : Defs nD τ sig (Elt F) Λ₀} (c : Dev nD)

/-- A load from an operand held whole. -/
theorem load_in {s : Shape} {e : EltTy} (m : Memref sig .tc .vmem s e) (r : Rect s) {hl : m.view.LoadsAt r.toLoadRect}
    (f : Buf (Elt F) (m.view.loc (c : Thread nD τ))) {α : Type} {Q : α → sProp 𝕄}
    {k : (r.shape.Idx → Elt F e) → Prog (TpuEff nD τ sig (Elt F) Λ₀ .tc) α} :
    ((m.view.loc (c : Thread nD τ) ↦{fullShare} f) : sProp 𝕄)
      ⊢ iprop(((m.view.loc (c : Thread nD τ) ↦{fullShare} f) -∗ wp frame (wpE defs 𝒱₀ c none) Set.univ (k ((m.access r).read (Elt F) f)) Q)
          -∗ wp frame (wpE defs 𝒱₀ c none) Set.univ (.op (.load m r.toLoadRect hl) k) Q) :=
  wp_load (m := m) (r := r.toLoadRect) (k := k) (S := Finset.univ) (q := fullShare) (f := f) 𝒱₀ (c : Thread nD τ) none Set.univ (Finset.subset_univ _)

/-- A load through a rectangle whose elements are held. -/
theorem load_rect {s : Shape} {e : EltTy} (m : Memref sig .tc .vmem s e) (r : Rect s) {hl : m.view.LoadsAt r.toLoadRect}
    (f : Buf (Elt F) ((m.access r).loc (c : Thread nD τ))) {α : Type} {Q : α → sProp 𝕄}
    {k : (r.shape.Idx → Elt F e) → Prog (TpuEff nD τ sig (Elt F) Λ₀ .tc) α} :
    (((m.access r).loc (c : Thread nD τ) ↦[(m.access r).set]{fullShare} f) : sProp 𝕄)
      ⊢ iprop((((m.access r).loc (c : Thread nD τ) ↦[(m.access r).set]{fullShare} f) -∗ wp frame (wpE defs 𝒱₀ c none) Set.univ (k ((m.access r).read (Elt F) f)) Q)
          -∗ wp frame (wpE defs 𝒱₀ c none) Set.univ (.op (.load m r.toLoadRect hl) k) Q) :=
  wp_load_rect 𝒱₀ (c : Thread nD τ) none Set.univ (Finset.Subset.refl _)

/-- A store through a rectangle whose elements are held. -/
theorem store_rect {s : Shape} {e : EltTy} (m : Memref sig .tc .vmem s e) (r : Rect s) (w : r.shape.Idx → Elt F e)
    {hx : (m.access r).Stores Finset.univ} {hm : Finset.univ = Finset.univ ∨ ∀ a, r.stride a = 1}
    (f : Buf (Elt F) ((m.access r).loc (c : Thread nD τ))) {α : Type} {Q : α → sProp 𝕄}
    {k : PUnit.{1} → Prog (TpuEff nD τ sig (Elt F) Λ₀ .tc) α} :
    (((m.access r).loc (c : Thread nD τ) ↦[(m.access r).set]{fullShare} f) : sProp 𝕄)
      ⊢ iprop((((m.access r).loc (c : Thread nD τ) ↦[(m.access r).set]{fullShare} m.view.writes (Elt F) f [⟨r, w⟩]) -∗ wp frame (wpE defs 𝒱₀ c none) Set.univ (k ⟨⟩) Q)
          -∗ wp frame (wpE defs 𝒱₀ c none) Set.univ (.op (.store m r w Finset.univ hx hm) k) Q) :=
  wp_store_writes₀ 𝒱₀ (c : Thread nD τ) none Set.univ (Finset.Subset.refl _)

/-- Chunk `k` of the result, loaded before anything was stored into it (the value is never used). -/
theorem load_out_any (k : Fin 3) {hl : outM.view.LoadsAt (chunk k).toLoadRect} {α : Type} {Q : α → sProp 𝕄}
    {κ : ((chunk k).shape.Idx → Elt F .f32) → Prog (TpuEff nD τ sig (Elt F) Λ₀ .tc) α} (f : outM.view.ty.Contents (Elt F)) :
    (outAny k c f : sProp 𝕄)
      ⊢ iprop((∀ v, outAny k c f -∗ wp frame (wpE defs 𝒱₀ c none) Set.univ (κ v) Q)
          -∗ wp frame (wpE defs 𝒱₀ c none) Set.univ (.op (.load outM (chunk k).toLoadRect hl) κ) Q) := by
  iintro H Hk
  iapply (load_rect c outM (chunk k) f) $$ H
  iintro H
  iapply Hk; iexact H

theorem store_out_any (k : Fin 3) (w : Chunk F k) {hx : (outM.access (chunk k)).Stores Finset.univ}
    {hm : Finset.univ = Finset.univ ∨ ∀ a, (chunk k).stride a = 1} {α : Type} {Q : α → sProp 𝕄}
    {κ : PUnit.{1} → Prog (TpuEff nD τ sig (Elt F) Λ₀ .tc) α} (f : outM.view.ty.Contents (Elt F)) :
    (outAny k c f : sProp 𝕄)
      ⊢ iprop((outPts k c w -∗ wp frame (wpE defs 𝒱₀ c none) Set.univ (κ ⟨⟩) Q)
          -∗ wp frame (wpE defs 𝒱₀ c none) Set.univ (.op (.store outM (chunk k) w Finset.univ hx hm) κ) Q) := by
  iintro H Hk
  iapply (store_rect c outM (chunk k) w f) $$ H
  iintro H
  iapply Hk; iexists f; iexact H

/-- Chunk `k` of the result, loaded. -/
theorem load_out (k : Fin 3) (v : Chunk F k) {hl : outM.view.LoadsAt (chunk k).toLoadRect} {α : Type} {Q : α → sProp 𝕄}
    {κ : ((chunk k).shape.Idx → Elt F .f32) → Prog (TpuEff nD τ sig (Elt F) Λ₀ .tc) α} :
    (outPts k c v : sProp 𝕄)
      ⊢ iprop((outPts k c v -∗ wp frame (wpE defs 𝒱₀ c none) Set.univ (κ v) Q)
          -∗ wp frame (wpE defs 𝒱₀ c none) Set.univ (.op (.load outM (chunk k).toLoadRect hl) κ) Q) := by
  iintro ⟨%f, H⟩ Hk
  iapply (load_rect c outM (chunk k) (outM.view.writes (Elt F) f [⟨chunk k, v⟩])) $$ H
  iintro H
  rw [show (outM.access (chunk k)).read (Elt F) (outM.view.writes (Elt F) f [⟨chunk k, v⟩]) = v from
    funext fun x => View.read_writes_cons_emb (Val := Elt F) outM.view f (chunk k) v [] x]
  iapply Hk; iexists f; iexact H

theorem store_out (k : Fin 3) (v w : Chunk F k) {hx : (outM.access (chunk k)).Stores Finset.univ}
    {hm : Finset.univ = Finset.univ ∨ ∀ a, (chunk k).stride a = 1} {α : Type} {Q : α → sProp 𝕄}
    {κ : PUnit.{1} → Prog (TpuEff nD τ sig (Elt F) Λ₀ .tc) α} :
    (outPts k c v : sProp 𝕄)
      ⊢ iprop((outPts k c w -∗ wp frame (wpE defs 𝒱₀ c none) Set.univ (κ ⟨⟩) Q)
          -∗ wp frame (wpE defs 𝒱₀ c none) Set.univ (.op (.store outM (chunk k) w Finset.univ hx hm) κ) Q) := by
  iintro ⟨%f, H⟩ Hk
  iapply (store_out_any c k w (outM.view.writes (Elt F) f [⟨chunk k, v⟩])) $$ H
  iexact Hk

theorem slot_set (M : Memref sig .tc .vmem S2x3x128x512 .bf16) (j : Fin 6) : (slot M j).view.set = (M.access (box j)).set := View.set_reshape _ _

/-- Slot `j` of the send scratch, loaded (the value is never used). -/
theorem load_send (j : Fin 6) {hl : sendM.view.LoadsAt (box j).toLoadRect} {α : Type} {Q : α → sProp 𝕄}
    {κ : ((box j).shape.Idx → Elt F .bf16) → Prog (TpuEff nD τ sig (Elt F) Λ₀ .tc) α} (f : sendM.view.ty.Contents (Elt F)) :
    (sendPts j c f : sProp 𝕄)
      ⊢ iprop((∀ v, sendPts j c f -∗ wp frame (wpE defs 𝒱₀ c none) Set.univ (κ v) Q)
          -∗ wp frame (wpE defs 𝒱₀ c none) Set.univ (.op (.load sendM (box j).toLoadRect hl) κ) Q) := by
  unfold sendPts; rw [slot_set]
  iintro H Hk
  iapply (load_rect c sendM (box j) f) $$ H
  iintro H
  iapply Hk; iexact H

theorem store_send (j : Fin 6) (w : Piece F j) {hx : (sendM.access (box j)).Stores Finset.univ}
    {hm : Finset.univ = Finset.univ ∨ ∀ a, (box j).stride a = 1} {α : Type} {Q : α → sProp 𝕄}
    {κ : PUnit.{1} → Prog (TpuEff nD τ sig (Elt F) Λ₀ .tc) α} (f : sendM.view.ty.Contents (Elt F)) :
    (sendPts j c f : sProp 𝕄)
      ⊢ iprop((sendPts j c (sendM.view.writes (Elt F) f [⟨box j, w⟩]) -∗ wp frame (wpE defs 𝒱₀ c none) Set.univ (κ ⟨⟩) Q)
          -∗ wp frame (wpE defs 𝒱₀ c none) Set.univ (.op (.store sendM (box j) w Finset.univ hx hm) κ) Q) := by
  unfold sendPts; rw [slot_set]
  iintro H Hk
  iapply (store_rect c sendM (box j) w f) $$ H
  iexact Hk

/-- Slot `j` of the receive scratch, loaded after piece `v` landed there. -/
theorem load_recv (j : Fin 6) (v : Piece F j) {hl : recvM.view.LoadsAt (box j).toLoadRect} {α : Type} {Q : α → sProp 𝕄}
    {κ : ((box j).shape.Idx → Elt F .bf16) → Prog (TpuEff nD τ sig (Elt F) Λ₀ .tc) α} :
    (recvPts j c (landed j v) : sProp 𝕄)
      ⊢ iprop((recvPts j c (landed j v) -∗ wp frame (wpE defs 𝒱₀ c none) Set.univ (κ v) Q)
          -∗ wp frame (wpE defs 𝒱₀ c none) Set.univ (.op (.load recvM (box j).toLoadRect hl) κ) Q) := by
  unfold recvPts; rw [slot_set]
  iintro H Hk
  iapply (load_rect c recvM (box j) (landed j v)) $$ H
  iintro H
  rw [show (recvM.access (box j)).read (Elt F) (landed j v) = v from
    funext fun x => View.read_writes_cons_emb (Val := Elt F) recvM.view recvM.view.junk (box j) v [] x]
  iapply Hk; iexact H

end Rules

/-! ## Cutting the buffers -/

theorem box_disjoint {i j : Fin 6} (h : i ≠ j) : Disjoint (box i).set (box j).set := by
  revert h; fin_cases i <;> fin_cases j <;> intro h <;>
    first
    | exact absurd rfl h
    | exact Rect.unit_disjoint (a := (0 : Fin 4)) (by decide)
    | exact Rect.unit_disjoint (a := (1 : Fin 4)) (by decide)

end Cert.KernelIdeal.Exchange

end
-- ==== Proof.Values.lean ====
/-
  WHAT A DEVICE COMPUTES AND SENDS, in the payloads of its body: its own partial sum in three chunks, the six pieces it
  sends, and the three chunks of the result it ends with.
-/
module

public import proofs.«01_k».proof.Proof.Access

@[expose] public section

noncomputable section

namespace Cert.KernelIdeal.Exchange

open Cert.KernelIdeal Cert.KernelIdeal.Gen
open Idealize.ShloMosaic Idealize.ShloMosaic.TcCoe

variable {F : FTy → Type} [FloatOps F]

/-- The five operand blocks of one device. -/
structure Blocks (F : FTy → Type) where
  x : S2x128x512.Idx → Elt F .bf16
  wq : S512x256.Idx → Elt F .bf16
  k : S2x128x4x64.Idx → Elt F .bf16
  v : S2x128x4x64.Idx → Elt F .bf16
  wo : S256x512.Idx → Elt F .bf16

/-- Head `h` of batch `b` in a device's keys or values. -/
abbrev head (b : Fin 2) (h : Fin 4) : Rect S2x128x4x64 :=
  Rect.unit (s := S2x128x4x64) ![b.val, 0, h.val, 0] S1x128x1x64.size (by revert b h; decide)

section Device
variable (B : Blocks F)

def kHead (b : Fin 2) (h : Fin 4) : Vec F S1x128x1x64 .bf16 := (kM.access (head b h)).read (Elt F) B.k
def vHead (b : Fin 2) (h : Fin 4) : Vec F S1x128x1x64 .bf16 := (vM.access (head b h)).read (Elt F) B.v

/-- The projected queries. -/
def qAll : FVec F S256x256 .f32 :=
  k0_pay1 ((xM.access (Rect.unit (s := S2x128x512) ![0, 0, 0] S2x128x512.size inb_S2x128x512_S2x128x512_0_0_0)).read (Elt F) B.x)
    ((wqM.access (Rect.unit (s := S512x256) ![0, 0] S512x256.size inb_S512x256_S512x256_0_0)).read (Elt F) B.wq)
/-- The output projection's block. -/
def woAll : FVec F S256x512 .bf16 :=
  k0_pay12 ((woM.access (Rect.unit (s := S256x512) ![0, 0] S256x512.size inb_S256x512_S256x512_0_0)).read (Elt F) B.wo)

def w72 : BitVec 32 := Scalar.select (Scalar.cmpi .eq 3#32 0#32) 1#32 3#32
def w79 : BitVec 1 := Scalar.cmpi .slt w72 0#32
def m69 : IVec S128x128 1 := k0_pay7 k0_pay2 k0_pay3 k0_pay4 0#32
def m74 : IVec S128x128 32 := k0_pay8 k0_pay2 k0_pay3 k0_pay4 0#32
def m76 : IVec S128x128 1 := k0_pay9 k0_pay2 k0_pay3 k0_pay4 0#32
def m78 : IVec S128x128 1 := k0_pay10 k0_pay2 k0_pay3 k0_pay4 0#32
/-- Which scores are kept. -/
def mask : IVec S128x128 1 := k0_pay11 m69 w72 m74 m76 m78 w79

/-- Chunk 0 of the own partial sum, and the same rounded to be sent. -/
def part0 : Chunk F 0 :=
  k0_pay21 mask (woAll B) (k0_pay13 (qAll B) m69 w72 m74 m76 m78 w79 (kHead B 0 0) (vHead B 0 0))
    (k0_pay16 mask (k0_pay14 (qAll B)) (k0_pay15 (kHead B 0 1)) (vHead B 0 1)) (k0_pay17 (qAll B) mask (kHead B 0 2) (vHead B 0 2))
    (k0_pay18 (qAll B)) (k0_pay19 (kHead B 0 3)) (vHead B 0 3)
def send0 : Piece F 0 :=
  k0_pay22 mask (woAll B) (k0_pay13 (qAll B) m69 w72 m74 m76 m78 w79 (kHead B 0 0) (vHead B 0 0))
    (k0_pay16 mask (k0_pay14 (qAll B)) (k0_pay15 (kHead B 0 1)) (vHead B 0 1)) (k0_pay17 (qAll B) mask (kHead B 0 2) (vHead B 0 2))
    (k0_pay18 (qAll B)) (k0_pay19 (kHead B 0 3)) (vHead B 0 3)
/-- Chunk 1. -/
def part1 : Chunk F 1 :=
  k0_pay32 mask (woAll B) (k0_pay23 (qAll B) mask (kHead B 1 0) (vHead B 1 0))
    (k0_pay27 mask (k0_pay24 (qAll B)) (k0_pay25 (vHead B 1 1)) (k0_pay26 (kHead B 1 1)) (constant S64x128 .f32 0x00000000#32))
    (k0_pay28 (qAll B) mask (kHead B 1 2) (vHead B 1 2)) (k0_pay29 (qAll B)) (k0_pay30 (kHead B 1 3)) (vHead B 1 3)
def send1 : Piece F 1 :=
  k0_pay33 mask (woAll B) (k0_pay23 (qAll B) mask (kHead B 1 0) (vHead B 1 0))
    (k0_pay27 mask (k0_pay24 (qAll B)) (k0_pay25 (vHead B 1 1)) (k0_pay26 (kHead B 1 1)) (constant S64x128 .f32 0x00000000#32))
    (k0_pay28 (qAll B) mask (kHead B 1 2) (vHead B 1 2)) (k0_pay29 (qAll B)) (k0_pay30 (kHead B 1 3)) (vHead B 1 3)
/-- Chunk 2. -/
def part2 : Chunk F 2 :=
  k0_pay43 mask (woAll B) (k0_pay34 (qAll B) mask (kHead B 1 0) (vHead B 1 0))
    (k0_pay38 mask (k0_pay35 (vHead B 1 1)) (k0_pay36 (qAll B) (kHead B 1 1)) (k0_pay37 (F := F)))
    (k0_pay39 (qAll B) mask (kHead B 1 2) (vHead B 1 2)) (k0_pay40 (qAll B)) (k0_pay41 (kHead B 1 3)) (vHead B 1 3)
def send2 : Piece F 2 :=
  k0_pay44 mask (woAll B) (k0_pay34 (qAll B) mask (kHead B 1 0) (vHead B 1 0))
    (k0_pay38 mask (k0_pay35 (vHead B 1 1)) (k0_pay36 (qAll B) (kHead B 1 1)) (k0_pay37 (F := F)))
    (k0_pay39 (qAll B) mask (kHead B 1 2) (vHead B 1 2)) (k0_pay40 (qAll B)) (k0_pay41 (kHead B 1 3)) (vHead B 1 3)

end Device

variable (I : Dev nD → Blocks F) (c : Dev nD)

/-- After the first exchange: the own partial sum plus the near partner's. -/
def pair0 : Chunk F 0 := k0_pay46 (part0 (I c)) (send0 (I (near c)))
def pair1 : Chunk F 1 := k0_pay49 (k0_pay48 (part1 (I c)) (send1 (I (near c))))
def pair2 : Chunk F 2 := k0_pay52 (part2 (I c)) (send2 (I (near c)))

/-- What device `c` sends as each piece. -/
def sent (c : Dev nD) : (j : Fin 6) → Piece F j
  | 0 => send0 (I c)
  | 1 => send1 (I c)
  | 2 => send2 (I c)
  | 3 => k0_pay47 (part0 (I c)) (send0 (I (near c)))
  | 4 => k0_pay50 (k0_pay48 (part1 (I c)) (send1 (I (near c))))
  | 5 => k0_pay53 (part2 (I c)) (send2 (I (near c)))

/-- The chunks of the result: what the pair has plus what the far partner's pair has. -/
def total0 : Chunk F 0 := k0_pay54 (pair0 I c) (sent I (far c) 3)
def total1 : Chunk F 1 := k0_pay55 (pair1 I c) (sent I (far c) 4)
def total2 : Chunk F 2 := k0_pay57 (k0_pay56 (pair2 I c) (sent I (far c) 5))
def total (c : Dev nD) : (k : Fin 3) → Chunk F k
  | 0 => total0 I c
  | 1 => total1 I c
  | 2 => total2 I c

end Cert.KernelIdeal.Exchange

end
-- ==== Proof.Body.lean ====
/-
  THE BODY of the kernel, run once at a symbolic device `c`: from what the launch deals the device to its three chunks of
  the result, every slot back and every cell waited out.
-/
module

public import proofs.«01_k».proof.Proof.Values

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Dev nD → Blocks F) (K : GSem nD τ sig → ℕ) (c : Dev nD)

/-- What device `c` holds for piece `j` before the body: its departure and arrival cells at their one round, the tokens
    of the two duties its transfer pays, the credit for what will arrive, and the send slot. -/
def mine (j : Fin 6) : sProp 𝕄 :=
  iprop(atPos ER (sendCell j c) 0 ∅ 0 ∗ reached ER (sendCell j c) 0 ∗ atPos ER (recvCell j c) 0 ∅ 0
    ∗ dutyTok ER (sendCell j c) 0 false ∗ dutyTok ER (recvCell j (peer j c)) 0 false
    ∗ cred (tallyAt (recvCell j c) () (amt j)) ∗ ∃ f, sendPts j c f)
theorem mine_eq (j : Fin 6) : (mine c j : sProp 𝕄) =
    iprop(atPos ER (sendCell j c) 0 ∅ 0 ∗ reached ER (sendCell j c) 0 ∗ atPos ER (recvCell j c) 0 ∅ 0
      ∗ dutyTok ER (sendCell j c) 0 false ∗ dutyTok ER (recvCell j (peer j c)) 0 false
      ∗ cred (tallyAt (recvCell j c) () (amt j)) ∗ ∃ f, sendPts j c f) := rfl
/-- What it holds after: both cells past their round, both slots back. -/
def spent (j : Fin 6) : sProp 𝕄 :=
  iprop(atPos ER (sendCell j c) 1 ∅ 0 ∗ atPos ER (recvCell j c) 1 ∅ 0 ∗ (∃ f, sendPts j c f) ∗ ∃ f, recvPts j c f)

/-- The operands, whole. -/
def operands (B : Blocks F) : sProp 𝕄 :=
  iprop((xM.view.loc (c : Thread nD τ) ↦{fullShare} B.x) ∗ (wqM.view.loc (c : Thread nD τ) ↦{fullShare} B.wq)
    ∗ (kM.view.loc (c : Thread nD τ) ↦{fullShare} B.k) ∗ (vM.view.loc (c : Thread nD τ) ↦{fullShare} B.v)
    ∗ (woM.view.loc (c : Thread nD τ) ↦{fullShare} B.wo))

def bodyPre : sProp 𝕄 :=
  iprop(known (sent I) K ∗ levAts L lv ∗ owing c (due c) ∗ atPos ER (barCell c) 0 ∅ 0 ∗ cred (tallyAt (barCell c) () 2)
    ∗ dutyTok ER (barCell (near c)) 0 false ∗ reached ER (barCell (near c)) 0
    ∗ dutyTok ER (barCell (far c)) 0 true ∗ reached ER (barCell (far c)) 0
    ∗ (lent 0 c ∗ lent 1 c ∗ lent 2 c ∗ lent 3 c ∗ lent 4 c ∗ lent 5 c)
    ∗ (mine c 0 ∗ mine c 1 ∗ mine c 2 ∗ mine c 3 ∗ mine c 4 ∗ mine c 5)
    ∗ operands c (I c) ∗ ∃ f, outAny 0 c f ∗ outAny 1 c f ∗ outAny 2 c f)

def bodyPost : sProp 𝕄 :=
  iprop(owing c 0 ∗ atPos ER (barCell c) 1 ∅ 0
    ∗ (spent c 0 ∗ spent c 1 ∗ spent c 2 ∗ spent c 3 ∗ spent c 4 ∗ spent c 5)
    ∗ operands c (I c) ∗ outPts 0 c (total0 I c) ∗ outPts 1 c (total1 I c) ∗ outPts 2 c (total2 I c))

section Loads

variable {defs : Defs nD τ sig (Elt F) Λ₀}

/-- A load of one head's keys. -/
theorem load_k (B : Blocks F) (b : Fin 2) (h : Fin 4) {hl : kM.view.LoadsAt (head b h).toLoadRect} {α : Type} {Q : α → sProp 𝕄}
    {k : (S1x128x1x64.Idx → Elt F .bf16) → Prog (TpuEff nD τ sig (Elt F) Λ₀ .tc) α} :
    ((kM.view.loc (c : Thread nD τ) ↦{fullShare} B.k) : sProp 𝕄)
      ⊢ iprop(((kM.view.loc (c : Thread nD τ) ↦{fullShare} B.k) -∗ wp frame (wpE defs 𝒱₀ c none) Set.univ (k (kHead B b h)) Q)
          -∗ wp frame (wpE defs 𝒱₀ c none) Set.univ (.op (.load kM (head b h).toLoadRect hl) k) Q) :=
  load_in c kM (head b h) B.k

/-- A load of one head's values. -/
theorem load_v (B : Blocks F) (b : Fin 2) (h : Fin 4) {hl : vM.view.LoadsAt (head b h).toLoadRect} {α : Type} {Q : α → sProp 𝕄}
    {k : (S1x128x1x64.Idx → Elt F .bf16) → Prog (TpuEff nD τ sig (Elt F) Λ₀ .tc) α} :
    ((vM.view.loc (c : Thread nD τ) ↦{fullShare} B.v) : sProp 𝕄)
      ⊢ iprop(((vM.view.loc (c : Thread nD τ) ↦{fullShare} B.v) -∗ wp frame (wpE defs 𝒱₀ c none) Set.univ (k (vHead B b h)) Q)
          -∗ wp frame (wpE defs 𝒱₀ c none) Set.univ (.op (.load vM (head b h).toLoadRect hl) k) Q) :=
  load_in c vM (head b h) B.v

end Loads

set_option maxRecDepth 65536 in
set_option maxHeartbeats 1600000 in
theorem body_run (Kt : PUnit → sProp 𝕄) :
    iprop(bodyPre I K c ∗ (bodyPost I c -∗ |={Set.univ}=> Kt ⟨⟩))
      ⊢ wp frame (wpE (defs₀ (F := F)) 𝒱₀ c none) Set.univ
          (cc0__body xM (Memref.isWhole_whole _) wqM (Memref.isWhole_whole _) kM (Memref.isWhole_whole _) vM (Memref.isWhole_whole _)
            woM (Memref.isWhole_whole _) outM (Memref.isWhole_whole _) sendM (Memref.isWhole_whole _) recvM (Memref.isWhole_whole _)
            cc0_scratch2 cc0_scratch3) Kt := by
  unfold bodyPre operands
  iintro ⟨⟨#HK, #Hlev, HO, HatB, HcB, HtN, #HrN, HtF, #HrF, ⟨Hl0, Hl1, Hl2, Hl3, Hl4, Hl5⟩, ⟨Hm0, Hm1, Hm2, Hm3, Hm4, Hm5⟩,
    ⟨Hx, Hwq, Hk, Hv, Hwo⟩, ⟨%fo, Ho0, Ho1, Ho2⟩⟩, Hend⟩
  rw [cc0__body_eq_skeleton]; unfold cc0__body_skel
  -- part 1: the two signals, the queries
  rw [k0_part1_eq_skeleton]; unfold k0_part1_skel
  simp only [semSignalWord, Prog.lift, Prog.bind_op, Prog.bind_ret, Prog.pure_eq_ret, wp_deviceId]
  unfold due
  iapply (signal_step (sent I) K c (near c) _ (dev1 c) false (debt c 0 + tallyAt (barCell (far c)) () 1)) $$ [HO HtN Hl0 Hl1 Hl2]
  · isplitr; · iexact HK
    isplitl [HO]; · iexact HO
    isplitl [HtN]; · iexact HtN
    isplitl [Hl0 Hl1 Hl2]
    · unfold barPay; rw [near_near]
      isplitl [Hl0]; · iexact Hl0
      isplitl [Hl1] <;> iassumption
    iexact HrN
  iintro HO
  iapply (signal_step (sent I) K c (far c) _ (dev2 c) true (debt c 0)) $$ [HO HtF Hl3 Hl4 Hl5]
  · isplitr; · iexact HK
    isplitl [HO]; · iexact HO
    isplitl [HtF]; · iexact HtF
    isplitl [Hl3 Hl4 Hl5]
    · unfold barPay; rw [far_far]
      isplitl [Hl3]; · iexact Hl3
      isplitl [Hl4] <;> iassumption
    iexact HrF
  iintro HO
  iapply (load_in c xM _ (I c).x) $$ Hx; iintro Hx
  iapply (load_in c wqM _ (I c).wq) $$ Hwq; iintro Hwq
  -- part 2
  rw [k0_part2_eq_skeleton]; unfold k0_part2_skel
  simp only [Prog.lift, Prog.bind_op, Prog.bind_ret, Prog.pure_eq_ret]
  -- part 3
  rw [k0_part3_eq_skeleton]; unfold k0_part3_skel
  simp only [Prog.lift, Prog.bind_op, Prog.bind_ret, Prog.pure_eq_ret]
  iapply (load_in c woM _ (I c).wo) $$ Hwo; iintro Hwo
  iapply (load_k c (I c) 0 0) $$ Hk; iintro Hk
  iapply (load_v c (I c) 0 0) $$ Hv; iintro Hv
  iapply (load_k c (I c) 0 1) $$ Hk; iintro Hk
  iapply (load_v c (I c) 0 1) $$ Hv; iintro Hv
  -- part 4
  rw [k0_part4_eq_skeleton]; unfold k0_part4_skel
  simp only [Prog.lift, Prog.bind_op, Prog.bind_ret, Prog.pure_eq_ret]
  iapply (load_k c (I c) 0 2) $$ Hk; iintro Hk
  iapply (load_v c (I c) 0 2) $$ Hv; iintro Hv
  iapply (load_k c (I c) 0 3) $$ Hk; iintro Hk
  -- part 5: chunk 0 stored, the barrier
  rw [k0_part5_eq_skeleton]; unfold k0_part5_skel
  simp only [semWaitWord, Prog.lift, Prog.bind_op, Prog.bind_ret, Prog.pure_eq_ret]
  iapply (load_v c (I c) 0 3) $$ Hv; iintro Hv
  iapply (load_out_any c 0 fo) $$ Ho0; iintro %_ Ho0
  iapply (store_out_any c 0 (part0 (I c)) fo) $$ Ho0; iintro Ho0
  icases (Entails.of_eq (mine_eq c 0)) $$ Hm0 with ⟨HatS0, #HrS0, HatV0, HtS0, HtV0, HcV0, ⟨%fs0, Hs0⟩⟩
  iapply (load_send c 0 fs0) $$ Hs0; iintro %_ Hs0
  iapply (store_send c 0 (send0 (I c)) fs0) $$ Hs0; iintro Hs0
  iapply (barrier_step (sent I) K c) $$ [HO HatB HcB]
  · isplitr; · iexact HK
    isplitr; · iexact Hlev
    isplitl [HO]; · iexact HO
    isplitl [HcB]; · iexact HcB
    iexact HatB
  unfold barPay
  iintro ⟨HO, HatB, ⟨Hl0, Hl1, Hl2⟩, ⟨Hl3, Hl4, Hl5⟩⟩
  -- part 6
  rw [k0_part6_eq_skeleton]; unfold k0_part6_skel
  simp only [Prog.lift, Prog.bind_op, Prog.bind_ret, Prog.pure_eq_ret]
  iapply (send_step (sent I) K c 0 _ (dev3 c) _ _ rfl rfl fs0) $$ [HO Hs0 Hl0 HtS0 HtV0]
  · isplitr; · iexact HK
    isplitl [HO]; · iexact HO
    isplitl [Hs0]; · iexact Hs0
    isplitl [Hl0]; · iexact Hl0
    isplitl [HtS0]; · iexact HtS0
    isplitr; · iexact HrS0
    iexact HtV0
  iintro ⟨HO, HcS0⟩
  iapply (load_k c (I c) 1 0) $$ Hk; iintro Hk
  iapply (load_v c (I c) 1 0) $$ Hv; iintro Hv
  iapply (load_k c (I c) 1 1) $$ Hk; iintro Hk
  iapply (load_v c (I c) 1 1) $$ Hv; iintro Hv
  -- part 7
  rw [k0_part7_eq_skeleton]; unfold k0_part7_skel
  simp only [Prog.lift, Prog.bind_op, Prog.bind_ret, Prog.pure_eq_ret]
  iapply (load_k c (I c) 1 2) $$ Hk; iintro Hk
  iapply (load_v c (I c) 1 2) $$ Hv; iintro Hv
  iapply (load_k c (I c) 1 3) $$ Hk; iintro Hk
  -- part 8
  rw [k0_part8_eq_skeleton]; unfold k0_part8_skel
  simp only [Prog.lift, Prog.bind_op, Prog.bind_ret, Prog.pure_eq_ret]
  iapply (load_v c (I c) 1 3) $$ Hv; iintro Hv
  iapply (load_out_any c 1 fo) $$ Ho1; iintro %_ Ho1
  iapply (store_out_any c 1 (part1 (I c)) fo) $$ Ho1; iintro Ho1
  icases (Entails.of_eq (mine_eq c 1)) $$ Hm1 with ⟨HatS1, #HrS1, HatV1, HtS1, HtV1, HcV1, ⟨%fs1, Hs1⟩⟩
  iapply (load_send c 1 fs1) $$ Hs1; iintro %_ Hs1
  iapply (store_send c 1 (send1 (I c)) fs1) $$ Hs1; iintro Hs1
  -- part 9
  rw [k0_part9_eq_skeleton]; unfold k0_part9_skel
  simp only [Prog.lift, Prog.bind_op, Prog.bind_ret, Prog.pure_eq_ret]
  iapply (send_step (sent I) K c 1 _ (dev4 c) _ _ rfl rfl fs1) $$ [HO Hs1 Hl1 HtS1 HtV1]
  · isplitr; · iexact HK
    isplitl [HO]; · iexact HO
    isplitl [Hs1]; · iexact Hs1
    isplitl [Hl1]; · iexact Hl1
    isplitl [HtS1]; · iexact HtS1
    isplitr; · iexact HrS1
    iexact HtV1
  iintro ⟨HO, HcS1⟩
  iapply (load_k c (I c) 1 0) $$ Hk; iintro Hk
  iapply (load_v c (I c) 1 0) $$ Hv; iintro Hv
  iapply (load_k c (I c) 1 1) $$ Hk; iintro Hk
  iapply (load_v c (I c) 1 1) $$ Hv; iintro Hv
  -- part 10
  rw [k0_part10_eq_skeleton]; unfold k0_part10_skel
  simp only [Prog.lift, Prog.bind_op, Prog.bind_ret, Prog.pure_eq_ret]
  iapply (load_k c (I c) 1 2) $$ Hk; iintro Hk
  iapply (load_v c (I c) 1 2) $$ Hv; iintro Hv
  iapply (load_k c (I c) 1 3) $$ Hk; iintro Hk
  iapply (load_v c (I c) 1 3) $$ Hv; iintro Hv
  -- part 11
  rw [k0_part11_eq_skeleton]; unfold k0_part11_skel
  simp only [Prog.lift, Prog.bind_op, Prog.bind_ret, Prog.pure_eq_ret]
  iapply (load_out_any c 2 fo) $$ Ho2; iintro %_ Ho2
  iapply (store_out_any c 2 (part2 (I c)) fo) $$ Ho2; iintro Ho2
  icases (Entails.of_eq (mine_eq c 2)) $$ Hm2 with ⟨HatS2, #HrS2, HatV2, HtS2, HtV2, HcV2, ⟨%fs2, Hs2⟩⟩
  iapply (load_send c 2 fs2) $$ Hs2; iintro %_ Hs2
  iapply (store_send c 2 (send2 (I c)) fs2) $$ Hs2; iintro Hs2
  -- part 12
  rw [k0_part12_eq_skeleton]; unfold k0_part12_skel
  simp only [Prog.lift, Prog.bind_op, Prog.bind_ret, Prog.pure_eq_ret]
  iapply (send_step (sent I) K c 2 _ (dev5 c) _ _ rfl rfl fs2) $$ [HO Hs2 Hl2 HtS2 HtV2]
  · isplitr; · iexact HK
    isplitl [HO]; · iexact HO
    isplitl [Hs2]; · iexact Hs2
    isplitl [Hl2]; · iexact Hl2
    isplitl [HtS2]; · iexact HtS2
    isplitr; · iexact HrS2
    iexact HtV2
  iintro ⟨HO, HcS2⟩
  iapply (recv_step (sent I) K c 0 3 (by decide) (send0 (I (near c))) rfl _ rfl _) $$ [HO HcV0 HatV0]
  · isplitr; · iexact HK
    isplitr; · iexact Hlev
    isplitl [HO]; · iexact HO
    isplitl [HcV0]; · iexact HcV0
    iexact HatV0
  iintro ⟨HO, HatV0, Hr0⟩
  iapply (load_out c 0 (part0 (I c))) $$ Ho0; iintro Ho0
  iapply (load_recv c 0 (send0 (I (near c)))) $$ Hr0; iintro Hr0
  iapply (load_out c 0 (part0 (I c))) $$ Ho0; iintro Ho0
  iapply (store_out c 0 (part0 (I c)) (pair0 I c)) $$ Ho0; iintro Ho0
  icases (Entails.of_eq (mine_eq c 3)) $$ Hm3 with ⟨HatS3, #HrS3, HatV3, HtS3, HtV3, HcV3, ⟨%fs3, Hs3⟩⟩
  iapply (load_send c 3 fs3) $$ Hs3; iintro %_ Hs3
  iapply (store_send c 3 (sent I c 3) fs3) $$ Hs3; iintro Hs3
  -- part 13
  rw [k0_part13_eq_skeleton]; unfold k0_part13_skel
  simp only [Prog.lift, Prog.bind_op, Prog.bind_ret, Prog.pure_eq_ret]
  iapply (send_step (sent I) K c 3 _ (dev6 c) _ _ rfl rfl fs3) $$ [HO Hs3 Hl3 HtS3 HtV3]
  · isplitr; · iexact HK
    isplitl [HO]; · iexact HO
    isplitl [Hs3]; · iexact Hs3
    isplitl [Hl3]; · iexact Hl3
    isplitl [HtS3]; · iexact HtS3
    isplitr; · iexact HrS3
    iexact HtV3
  iintro ⟨HO, HcS3⟩
  iapply (recv_step (sent I) K c 1 4 (by decide) (send1 (I (near c))) rfl _ rfl _) $$ [HO HcV1 HatV1]
  · isplitr; · iexact HK
    isplitr; · iexact Hlev
    isplitl [HO]; · iexact HO
    isplitl [HcV1]; · iexact HcV1
    iexact HatV1
  iintro ⟨HO, HatV1, Hr1⟩
  iapply (load_out c 1 (part1 (I c))) $$ Ho1; iintro Ho1
  iapply (load_recv c 1 (send1 (I (near c)))) $$ Hr1; iintro Hr1
  -- part 14
  rw [k0_part14_eq_skeleton]; unfold k0_part14_skel
  simp only [Prog.lift, Prog.bind_op, Prog.bind_ret, Prog.pure_eq_ret]
  iapply (load_out c 1 (part1 (I c))) $$ Ho1; iintro Ho1
  iapply (store_out c 1 (part1 (I c)) (pair1 I c)) $$ Ho1; iintro Ho1
  icases (Entails.of_eq (mine_eq c 4)) $$ Hm4 with ⟨HatS4, #HrS4, HatV4, HtS4, HtV4, HcV4, ⟨%fs4, Hs4⟩⟩
  iapply (load_send c 4 fs4) $$ Hs4; iintro %_ Hs4
  iapply (store_send c 4 (sent I c 4) fs4) $$ Hs4; iintro Hs4
  iapply (send_step (sent I) K c 4 _ (dev7 c) _ _ rfl rfl fs4) $$ [HO Hs4 Hl4 HtS4 HtV4]
  · isplitr; · iexact HK
    isplitl [HO]; · iexact HO
    isplitl [Hs4]; · iexact Hs4
    isplitl [Hl4]; · iexact Hl4
    isplitl [HtS4]; · iexact HtS4
    isplitr; · iexact HrS4
    iexact HtV4
  iintro ⟨HO, HcS4⟩
  -- part 15
  rw [k0_part15_eq_skeleton]; unfold k0_part15_skel
  simp only [Prog.lift, Prog.bind_op, Prog.bind_ret, Prog.pure_eq_ret]
  iapply (recv_step (sent I) K c 2 5 (by decide) (send2 (I (near c))) rfl _ rfl _) $$ [HO HcV2 HatV2]
  · isplitr; · iexact HK
    isplitr; · iexact Hlev
    isplitl [HO]; · iexact HO
    isplitl [HcV2]; · iexact HcV2
    iexact HatV2
  iintro ⟨HO, HatV2, Hr2⟩
  iapply (load_out c 2 (part2 (I c))) $$ Ho2; iintro Ho2
  iapply (load_recv c 2 (send2 (I (near c)))) $$ Hr2; iintro Hr2
  iapply (load_out c 2 (part2 (I c))) $$ Ho2; iintro Ho2
  iapply (store_out c 2 (part2 (I c)) (pair2 I c)) $$ Ho2; iintro Ho2
  icases (Entails.of_eq (mine_eq c 5)) $$ Hm5 with ⟨HatS5, #HrS5, HatV5, HtS5, HtV5, HcV5, ⟨%fs5, Hs5⟩⟩
  iapply (load_send c 5 fs5) $$ Hs5; iintro %_ Hs5
  iapply (store_send c 5 (sent I c 5) fs5) $$ Hs5; iintro Hs5
  iapply (send_step (sent I) K c 5 _ (dev8 c) _ _ rfl rfl fs5) $$ [HO Hs5 Hl5 HtS5 HtV5]
  · isplitr; · iexact HK
    isplitl [HO]; · iexact HO
    isplitl [Hs5]; · iexact Hs5
    isplitl [Hl5]; · iexact Hl5
    isplitl [HtS5]; · iexact HtS5
    isplitr; · iexact HrS5
    iexact HtV5
  iintro ⟨HO, HcS5⟩
  -- part 16
  rw [k0_part16_eq_skeleton]; unfold k0_part16_skel
  simp only [Prog.lift, Prog.bind_op, Prog.bind_ret, Prog.pure_eq_ret]
  iapply (recv_step (sent I) K c 3 6 (by decide) (sent I (far c) 3) rfl _ rfl _) $$ [HO HcV3 HatV3]
  · isplitr; · iexact HK
    isplitr; · iexact Hlev
    isplitl [HO]; · iexact HO
    isplitl [HcV3]; · iexact HcV3
    iexact HatV3
  iintro ⟨HO, HatV3, Hr3⟩
  iapply (load_out c 0 (pair0 I c)) $$ Ho0; iintro Ho0
  iapply (load_recv c 3 (sent I (far c) 3)) $$ Hr3; iintro Hr3
  iapply (load_out c 0 (pair0 I c)) $$ Ho0; iintro Ho0
  iapply (store_out c 0 (pair0 I c) (total0 I c)) $$ Ho0; iintro Ho0
  -- part 17
  rw [k0_part17_eq_skeleton]; unfold k0_part17_skel
  simp only [Prog.lift, Prog.bind_op, Prog.bind_ret, Prog.pure_eq_ret]
  iapply (recv_step (sent I) K c 4 6 (by decide) (sent I (far c) 4) rfl _ rfl _) $$ [HO HcV4 HatV4]
  · isplitr; · iexact HK
    isplitr; · iexact Hlev
    isplitl [HO]; · iexact HO
    isplitl [HcV4]; · iexact HcV4
    iexact HatV4
  iintro ⟨HO, HatV4, Hr4⟩
  iapply (load_out c 1 (pair1 I c)) $$ Ho1; iintro Ho1
  iapply (load_recv c 4 (sent I (far c) 4)) $$ Hr4; iintro Hr4
  iapply (load_out c 1 (pair1 I c)) $$ Ho1; iintro Ho1
  iapply (store_out c 1 (pair1 I c) (total1 I c)) $$ Ho1; iintro Ho1
  iapply (recv_step (sent I) K c 5 6 (by decide) (sent I (far c) 5) rfl _ rfl _) $$ [HO HcV5 HatV5]
  · isplitr; · iexact HK
    isplitr; · iexact Hlev
    isplitl [HO]; · iexact HO
    isplitl [HcV5]; · iexact HcV5
    iexact HatV5
  iintro ⟨HO, HatV5, Hr5⟩
  iapply (load_out c 2 (pair2 I c)) $$ Ho2; iintro Ho2
  iapply (load_recv c 5 (sent I (far c) 5)) $$ Hr5; iintro Hr5
  -- part 18
  rw [k0_part18_eq_skeleton]; unfold k0_part18_skel
  simp only [Prog.lift, Prog.bind_op, Prog.bind_ret, Prog.pure_eq_ret]
  iapply (load_out c 2 (pair2 I c)) $$ Ho2; iintro Ho2
  iapply (store_out c 2 (pair2 I c) (total2 I c)) $$ Ho2; iintro Ho2
  rw [debt_done]
  iapply (sent_step (sent I) K c 0 _ rfl _) $$ [HO HcS0 HatS0]
  · isplitr; · iexact HK
    isplitl [HO]; · iexact HO
    isplitl [HcS0]; · iexact HcS0
    iexact HatS0
  iintro ⟨HO, HatS0, Hs0⟩
  iapply (sent_step (sent I) K c 3 _ rfl _) $$ [HO HcS3 HatS3]
  · isplitr; · iexact HK
    isplitl [HO]; · iexact HO
    isplitl [HcS3]; · iexact HcS3
    iexact HatS3
  iintro ⟨HO, HatS3, Hs3⟩
  -- part 19
  rw [k0_part19_eq_skeleton]; unfold k0_part19_skel
  simp only [Prog.lift, Prog.bind_op, Prog.bind_ret, Prog.pure_eq_ret]
  iapply (sent_step (sent I) K c 1 _ rfl _) $$ [HO HcS1 HatS1]
  · isplitr; · iexact HK
    isplitl [HO]; · iexact HO
    isplitl [HcS1]; · iexact HcS1
    iexact HatS1
  iintro ⟨HO, HatS1, Hs1⟩
  iapply (sent_step (sent I) K c 4 _ rfl _) $$ [HO HcS4 HatS4]
  · isplitr; · iexact HK
    isplitl [HO]; · iexact HO
    isplitl [HcS4]; · iexact HcS4
    iexact HatS4
  iintro ⟨HO, HatS4, Hs4⟩
  iapply (sent_step (sent I) K c 2 _ rfl _) $$ [HO HcS2 HatS2]
  · isplitr; · iexact HK
    isplitl [HO]; · iexact HO
    isplitl [HcS2]; · iexact HcS2
    iexact HatS2
  iintro ⟨HO, HatS2, Hs2⟩
  -- the last wait
  iapply (sent_step (sent I) K c 5 _ rfl _) $$ [HO HcS5 HatS5]
  · isplitr; · iexact HK
    isplitl [HO]; · iexact HO
    isplitl [HcS5]; · iexact HcS5
    iexact HatS5
  iintro ⟨HO, HatS5, Hs5⟩
  rw [wp_ret]
  iapply Hend
  unfold bodyPost spent operands
  isplitl [HO]; · iexact HO
  isplitl [HatB]; · iexact HatB
  isplitl [HatS0 HatV0 Hs0 Hr0 HatS1 HatV1 Hs1 Hr1 HatS2 HatV2 Hs2 Hr2 HatS3 HatV3 Hs3 Hr3 HatS4 HatV4 Hs4 Hr4 HatS5 HatV5 Hs5 Hr5]
  · isplitl [HatS0 HatV0 Hs0 Hr0]
    · isplitl [HatS0]; · iexact HatS0
      isplitl [HatV0]; · iexact HatV0
      isplitl [Hs0]; · iexact Hs0
      iexists _; iexact Hr0
    isplitl [HatS1 HatV1 Hs1 Hr1]
    · isplitl [HatS1]; · iexact HatS1
      isplitl [HatV1]; · iexact HatV1
      isplitl [Hs1]; · iexact Hs1
      iexists _; iexact Hr1
    isplitl [HatS2 HatV2 Hs2 Hr2]
    · isplitl [HatS2]; · iexact HatS2
      isplitl [HatV2]; · iexact HatV2
      isplitl [Hs2]; · iexact Hs2
      iexists _; iexact Hr2
    isplitl [HatS3 HatV3 Hs3 Hr3]
    · isplitl [HatS3]; · iexact HatS3
      isplitl [HatV3]; · iexact HatV3
      isplitl [Hs3]; · iexact Hs3
      iexists _; iexact Hr3
    isplitl [HatS4 HatV4 Hs4 Hr4]
    · isplitl [HatS4]; · iexact HatS4
      isplitl [HatV4]; · iexact HatV4
      isplitl [Hs4]; · iexact Hs4
      iexists _; iexact Hr4
    isplitl [HatS5]; · iexact HatS5
    isplitl [HatV5]; · iexact HatV5
    isplitl [Hs5]; · iexact Hs5
    iexists _; iexact Hr5
  isplitl [Hx Hwq Hk Hv Hwo]
  · isplitl [Hx]; · iexact Hx
    isplitl [Hwq]; · iexact Hwq
    isplitl [Hk]; · iexact Hk
    isplitl [Hv] <;> iassumption
  isplitl [Ho0]; · iexact Ho0
  isplitl [Ho1] <;> iassumption

end Cert.KernelIdeal.Exchange

end
-- ==== Proof.Cuts.lean ====
/-
  CUTTING AND JOINING BUFFERS. A scratch buffer is its six slots and the rest; the result is its three chunks.
-/
module

public import proofs.«01_k».proof.Proof.Access

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Any buffer, any family of disjoint parts -/

section Parts
variable {T : Type} [Fintype T] [DecidableEq T] {ℓ : Loc nD τ sig} (K : T → Finset (Idx ℓ))

/-- What no part covers. -/
def uncovered : Finset (Idx ℓ) := Finset.univ \ Finset.univ.biUnion K

theorem cut_parts (hK : ∀ i j, i ≠ j → Disjoint (K i) (K j)) (f : Buf (Elt F) ℓ) :
    ((ℓ ↦{fullShare} f) : sProp 𝕄) ⊢ iprop((bigSep Finset.univ fun t => ℓ ↦[K t]{fullShare} f) ∗ ℓ ↦[uncovered K]{fullShare} f) := by
  rw [← pointsTo_biUnion Finset.univ K fun i _ j _ h => hK i j h]
  exact (pointsTo_split_subset (Finset.subset_univ _)).1

theorem join_parts (hK : ∀ i j, i ≠ j → Disjoint (K i) (K j)) :
    iprop((bigSep Finset.univ fun t => iprop(∃ f, ℓ ↦[K t]{fullShare} f)) ∗ ∃ f, ℓ ↦[uncovered K]{fullShare} f)
      ⊢ (iprop(∃ f, ℓ ↦{fullShare} f) : sProp 𝕄) := by
  iintro ⟨H, %f₀, Hr⟩
  haveI : ∀ _ : T, Nonempty (Buf (Elt F) ℓ) := fun _ => ⟨f₀⟩
  ihave H' := (bigSep_exists_pi Finset.univ fun t (f : Buf (Elt F) ℓ) => (ℓ ↦[K t]{fullShare} f : sProp 𝕄)) $$ H
  icases H' with ⟨%fs, H⟩
  ihave H' := (pointsTo_biUnion_join Finset.univ K fs f₀ fun i _ j _ h => hK i j h) $$ H
  icases H' with ⟨%g, -, H⟩
  iexists _
  iapply (pointsTo_join_subset (Finset.subset_univ _))
  isplitl [H]; · iexact H
  iexact Hr

/-- Parts that cover the buffer, each holding what `g` holds there, are the buffer at `g`. -/
theorem join_cover (hK : ∀ i j, i ≠ j → Disjoint (K i) (K j)) (hc : ∀ i, ∃ t, i ∈ K t) (f₀ g : Buf (Elt F) ℓ) :
    (bigSep Finset.univ fun t => iprop(∃ f, ⌜∀ i ∈ K t, f i = g i⌝ ∗ ℓ ↦[K t]{fullShare} f))
      ⊢ ((ℓ ↦{fullShare} g) : sProp 𝕄) := by
  have h1 (t : T) : iprop(∃ f, ⌜∀ i ∈ K t, f i = g i⌝ ∗ ℓ ↦[K t]{fullShare} f) ⊢ (ℓ ↦[K t]{fullShare} g : sProp 𝕄) := by
    iintro ⟨%f, %h, H⟩
    iapply (Entails.of_eq (pointsTo_congr h)) $$ H
  refine (bigSep_mono fun t _ => h1 t).trans ?_
  rw [← pointsTo_biUnion Finset.univ K fun i _ j _ h => hK i j h,
    show Finset.univ.biUnion K = Finset.univ from Finset.eq_univ_of_forall fun i => by
      obtain ⟨t, ht⟩ := hc i; exact Finset.mem_biUnion.mpr ⟨t, Finset.mem_univ t, ht⟩]
  exact Idealize.SL.BI.Entails.refl _

end Parts

theorem bigSep_six (Φ : Fin 6 → sProp 𝕄) : bigSep Finset.univ Φ = iprop(Φ 0 ∗ Φ 1 ∗ Φ 2 ∗ Φ 3 ∗ Φ 4 ∗ Φ 5) := bigSep_W0 Φ
theorem bigSep_three (Φ : Fin 3 → sProp 𝕄) : bigSep Finset.univ Φ = iprop(Φ 0 ∗ Φ 1 ∗ Φ 2) :=
  bigSep_univ_eq_bigSepL [0, 1, 2] (by decide) (by decide) Φ

/-! ## The scratch buffers -/

section Scratch
variable (c : Dev nD)

abbrev sendSlots : Fin 6 → Finset (Idx ((c : Thread nD τ).loc cc0_scratch0)) := fun j => (slot sendM j).view.set
abbrev recvSlots : Fin 6 → Finset (Idx ((c : Thread nD τ).loc cc0_scratch1)) := fun j => (slot recvM j).view.set

theorem sendSlots_disjoint (i j : Fin 6) (h : i ≠ j) : Disjoint (sendSlots c i) (sendSlots c j) := by
  have e (k : Fin 6) : sendSlots c k = (box k).set := (slot_set sendM k).trans (View.set_slice_whole _ _)
  rw [e, e]; exact box_disjoint h
theorem recvSlots_disjoint (i j : Fin 6) (h : i ≠ j) : Disjoint (recvSlots c i) (recvSlots c j) := by
  have e (k : Fin 6) : recvSlots c k = (box k).set := (slot_set recvM k).trans (View.set_slice_whole _ _)
  rw [e, e]; exact box_disjoint h

/-- What of the two scratch buffers no slot covers. -/
def leftover : sProp 𝕄 :=
  iprop((∃ f : Buf (Elt F) ((c : Thread nD τ).loc cc0_scratch0), ((c : Thread nD τ).loc cc0_scratch0) ↦[uncovered (sendSlots c)]{fullShare} f)
    ∗ ∃ f : Buf (Elt F) ((c : Thread nD τ).loc cc0_scratch1), ((c : Thread nD τ).loc cc0_scratch1) ↦[uncovered (recvSlots c)]{fullShare} f)

theorem cut_scratch :
    (Pipeline.scopedRest spec0 c : sProp 𝕄)
      ⊢ iprop((bigSep Finset.univ fun j => iprop(∃ f, sendPts j c f)) ∗ (bigSep Finset.univ fun j => iprop(∃ f, recvPts j c f)) ∗ leftover c) := by
  have hsend (j : Fin 6) (f : sendM.view.ty.Contents (Elt F)) : (((c : Thread nD τ).loc cc0_scratch0) ↦[sendSlots c j]{fullShare} f : sProp 𝕄) ⊢ iprop(∃ f, sendPts j c f) := by
    iintro H; iexists f; iexact H
  have hrecv (j : Fin 6) (f : recvM.view.ty.Contents (Elt F)) : (((c : Thread nD τ).loc cc0_scratch1) ↦[recvSlots c j]{fullShare} f : sProp 𝕄) ⊢ iprop(∃ f, recvPts j c f) := by
    iintro H; iexists f; iexact H
  rw [scopedRest0_eq]
  unfold leftover
  iintro ⟨⟨%f, Hs⟩, ⟨%g, Hr⟩⟩
  ihave Hs' := (cut_parts (sendSlots c) (sendSlots_disjoint c) f) $$ Hs
  icases Hs' with ⟨Hs, Hsr⟩
  ihave Hr' := (cut_parts (recvSlots c) (recvSlots_disjoint c) g) $$ Hr
  icases Hr' with ⟨Hr, Hrr⟩
  isplitl [Hs]
  · iapply (show (bigSep Finset.univ fun j => (((c : Thread nD τ).loc cc0_scratch0) ↦[sendSlots c j]{fullShare} f : sProp 𝕄))
        ⊢ bigSep Finset.univ fun j => iprop(∃ f, sendPts j c f) from bigSep_mono fun j _ => hsend j f) $$ Hs
  isplitl [Hr]
  · iapply (show (bigSep Finset.univ fun j => (((c : Thread nD τ).loc cc0_scratch1) ↦[recvSlots c j]{fullShare} g : sProp 𝕄))
        ⊢ bigSep Finset.univ fun j => iprop(∃ f, recvPts j c f) from bigSep_mono fun j _ => hrecv j g) $$ Hr
  isplitl [Hsr]
  · iexists f; iexact Hsr
  iexists g; iexact Hrr

theorem join_scratch :
    iprop((bigSep Finset.univ fun j => iprop(∃ f, sendPts j c f)) ∗ (bigSep Finset.univ fun j => iprop(∃ f, recvPts j c f)) ∗ leftover c)
      ⊢ (Pipeline.scopedRest spec0 c : sProp 𝕄) := by
  rw [scopedRest0_eq]
  unfold leftover
  iintro ⟨Hs, Hr, Hsr, Hrr⟩
  isplitl [Hs Hsr]
  · iapply (join_parts (sendSlots c) (sendSlots_disjoint c)); isplitl [Hs]; · iexact Hs
    iexact Hsr
  iapply (join_parts (recvSlots c) (recvSlots_disjoint c)); isplitl [Hr]; · iexact Hr
  iexact Hrr

end Scratch

/-! ## The result -/

theorem chunk_disjoint {i j : Fin 3} (h : i ≠ j) : Disjoint (chunk i).set (chunk j).set := by
  revert h; fin_cases i <;> fin_cases j <;> intro h <;>
    first
    | exact absurd rfl h
    | exact Rect.unit_disjoint (a := (0 : Fin 3)) (by decide)
    | exact Rect.unit_disjoint (a := (1 : Fin 3)) (by decide)

theorem chunk_cover (i : S2x128x512.Idx) : ∃ k, i ∈ (chunk k).set := by
  have h0 : (i 0).val < 2 := (i 0).isLt
  have h1 : (i 1).val < 128 := (i 1).isLt
  have h2 : (i 2).val < 512 := (i 2).isLt
  by_cases hb : (i 0).val = 0
  · refine ⟨0, Rect.mem_set_unit.mpr fun a => ?_⟩
    fin_cases a
    · show 0 ≤ (i 0).val ∧ (i 0).val < 0 + 1; omega
    · show 0 ≤ (i 1).val ∧ (i 1).val < 0 + 128; omega
    · show 0 ≤ (i 2).val ∧ (i 2).val < 0 + 512; omega
  by_cases hr : (i 1).val < 64
  · refine ⟨1, Rect.mem_set_unit.mpr fun a => ?_⟩
    fin_cases a
    · show 1 ≤ (i 0).val ∧ (i 0).val < 1 + 1; omega
    · show 0 ≤ (i 1).val ∧ (i 1).val < 0 + 64; omega
    · show 0 ≤ (i 2).val ∧ (i 2).val < 0 + 512; omega
  · refine ⟨2, Rect.mem_set_unit.mpr fun a => ?_⟩
    fin_cases a
    · show 1 ≤ (i 0).val ∧ (i 0).val < 1 + 1; omega
    · show 64 ≤ (i 1).val ∧ (i 1).val < 64 + 64; omega
    · show 0 ≤ (i 2).val ∧ (i 2).val < 0 + 512; omega

/-- The result's staging buffer whose chunks are `v`. -/
def assembled (v : (k : Fin 3) → Chunk F k) : outM.view.ty.Contents (Elt F) :=
  outM.view.writes (Elt F) outM.view.junk [⟨chunk 0, v 0⟩, ⟨chunk 1, v 1⟩, ⟨chunk 2, v 2⟩]

theorem chunk_miss {i j : Fin 3} (h : i ≠ j) (x : (chunk i).shape.Idx) : (chunk i).emb x ∉ (chunk j).set := fun hx =>
  Finset.disjoint_left.mp (chunk_disjoint h) (by rw [← Rect.map_emb_univ]; exact Finset.mem_map_of_mem _ (Finset.mem_univ x)) hx

theorem assembled_0 (v : (k : Fin 3) → Chunk F k) (x : (chunk 0).shape.Idx) : outM.view.read (Elt F) (assembled v) ((chunk 0).emb x) = v 0 x := by
  unfold assembled
  exact View.read_writes_cons_emb (Val := Elt F) outM.view outM.view.junk (chunk 0) (v 0) [⟨chunk 1, v 1⟩, ⟨chunk 2, v 2⟩] x
theorem assembled_1 (v : (k : Fin 3) → Chunk F k) (x : (chunk 1).shape.Idx) : outM.view.read (Elt F) (assembled v) ((chunk 1).emb x) = v 1 x := by
  unfold assembled
  rw [View.read_writes_cons_miss (Val := Elt F) outM.view outM.view.junk ⟨chunk 0, v 0⟩ [⟨chunk 1, v 1⟩, ⟨chunk 2, v 2⟩] _
    (chunk_miss (i := 1) (j := 0) (by decide) x)]
  exact View.read_writes_cons_emb (Val := Elt F) outM.view outM.view.junk (chunk 1) (v 1) [⟨chunk 2, v 2⟩] x
theorem assembled_2 (v : (k : Fin 3) → Chunk F k) (x : (chunk 2).shape.Idx) : outM.view.read (Elt F) (assembled v) ((chunk 2).emb x) = v 2 x := by
  unfold assembled
  rw [View.read_writes_cons_miss (Val := Elt F) outM.view outM.view.junk ⟨chunk 0, v 0⟩ [⟨chunk 1, v 1⟩, ⟨chunk 2, v 2⟩] _
    (chunk_miss (i := 2) (j := 0) (by decide) x),
    View.read_writes_cons_miss (Val := Elt F) outM.view outM.view.junk ⟨chunk 1, v 1⟩ [⟨chunk 2, v 2⟩] _
    (chunk_miss (i := 2) (j := 1) (by decide) x)]
  exact View.read_writes_cons_emb (Val := Elt F) outM.view outM.view.junk (chunk 2) (v 2) [] x

theorem each_of_three {P : Fin 3 → Prop} (h0 : P 0) (h1 : P 1) (h2 : P 2) (k : Fin 3) : P k := by
  fin_cases k
  · exact h0
  · exact h1
  · exact h2

/-- Each chunk of it reads back as stored. -/
theorem assembled_at (v : (k : Fin 3) → Chunk F k) (k : Fin 3) : ∀ x : (chunk k).shape.Idx, outM.view.read (Elt F) (assembled v) ((chunk k).emb x) = v k x :=
  each_of_three (P := fun k => ∀ x : (chunk k).shape.Idx, outM.view.read (Elt F) (assembled v) ((chunk k).emb x) = v k x)
    (assembled_0 v) (assembled_1 v) (assembled_2 v) k

section Result
variable (c : Dev nD)

abbrev outChunks : Fin 3 → Finset (Idx ((c : Thread nD τ).loc cc0_stg5_0)) := fun k => (outM.access (chunk k)).set
theorem outChunks_eq (k : Fin 3) : outChunks c k = (chunk k).set := View.set_slice_whole _ _
theorem outChunks_disjoint (i j : Fin 3) (h : i ≠ j) : Disjoint (outChunks c i) (outChunks c j) := by
  rw [outChunks_eq, outChunks_eq]; exact chunk_disjoint h

theorem cut_result (f : Buf (Elt F) ((c : Thread nD τ).loc cc0_stg5_0)) :
    ((((c : Thread nD τ).loc cc0_stg5_0) ↦{fullShare} f) : sProp 𝕄) ⊢ iprop(outAny 0 c f ∗ outAny 1 c f ∗ outAny 2 c f) := by
  refine (cut_parts (outChunks c) (outChunks_disjoint c) f).trans ?_
  rw [bigSep_three]
  iintro ⟨H, -⟩
  iexact H

theorem chunk_agrees (v : (k : Fin 3) → Chunk F k) (k : Fin 3) (f : outM.view.ty.Contents (Elt F)) (i : S2x128x512.Idx) (hi : i ∈ (chunk k).set) :
    outM.view.read (Elt F) (outM.view.writes (Elt F) f [⟨chunk k, v k⟩]) i = outM.view.read (Elt F) (assembled v) i := by
  obtain ⟨x, rfl⟩ := (chunk k).exists_idx_of_mem hi
  exact (View.read_writes_cons_emb (Val := Elt F) outM.view f (chunk k) (v k) [] x).trans (assembled_at v k x).symm

theorem read_out (g : outM.view.ty.Contents (Elt F)) : outM.view.read (Elt F) g = g := rfl

/-- A chunk holding `v k` agrees with the assembled result there. -/
theorem outPts_at (v : (k : Fin 3) → Chunk F k) (k : Fin 3) :
    outPts k c (v k) ⊢ (iprop(∃ f, ⌜∀ i ∈ outChunks c k, f i = assembled v i⌝
      ∗ ((c : Thread nD τ).loc cc0_stg5_0) ↦[outChunks c k]{fullShare} f) : sProp 𝕄) := by
  iintro ⟨%f, H⟩
  iexists (outM.view.writes (Elt F) f [⟨chunk k, v k⟩])
  isplitr
  · ipureintro
    rw [outChunks_eq c k]
    have h := chunk_agrees v k f
    rw [read_out, read_out] at h
    exact h
  iexact H

theorem join_result (v : (k : Fin 3) → Chunk F k) :
    iprop(outPts 0 c (v 0) ∗ outPts 1 c (v 1) ∗ outPts 2 c (v 2)) ⊢ ((((c : Thread nD τ).loc cc0_stg5_0) ↦{fullShare} assembled v) : sProp 𝕄) := by
  refine BI.Entails.trans ?_ (join_cover (outChunks c) (outChunks_disjoint c)
    (fun i => by obtain ⟨k, hk⟩ := chunk_cover i; exact ⟨k, by rw [outChunks_eq]; exact hk⟩) (assembled v) (assembled v))
  rw [bigSep_three]
  exact BIClass.sep_mono (outPts_at c v 0) (BIClass.sep_mono (outPts_at c v 1) (outPts_at c v 2))

end Result

end Cert.KernelIdeal.Exchange

end
-- ==== Proof.Region.lean ====
/-
  THE REGION. The body's run as a segment of @main: what each window's array holds before and after, what the launch
  keeps for the region, the cells opened on the way in and closed on the way out.
-/
module

public import proofs.«01_k».proof.Proof.Body
public import proofs.«01_k».proof.Proof.Cuts
public import proofs.«01_k».proof.Proof.Gen.KernelIdeal.Points
public import proofs.«01_k».proof.Proof.Gen.KernelIdeal.Regions
public import Idealize.ShloMosaic.Lib.Pipeline.RegionTalk

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## What each device is given and what it leaves -/

/-- The operands of device `c`, as the launch memory and the host operations determine them. -/
def blocks (c : Dev nD) : Blocks F where
  x := (win0_0.blk t0_0).view.read (Elt F) (V1 m c main_arg0)
  wq := (win0_1.blk t0_0).view.read (Elt F) (V1 m c main_arg1)
  k := (win0_2.blk t0_0).view.read (Elt F) (V1 m c main_v9)
  v := (win0_3.blk t0_0).view.read (Elt F) (V1 m c main_v14)
  wo := (win0_4.blk t0_0).view.read (Elt F) (V1 m c main_arg4)

/-- What the kernel leaves on device `c`: the three chunks of the sum over the devices. -/
@[irreducible] def result (c : Dev nD) : S2x128x512.Idx → Elt F .f32 := assembled (total (blocks m) c)

/-- The only array that the region changes. -/
def outs : Outs (F := F) := fun _ r c => if h : r = main_v15 then h ▸ result m c else V1 m c r

/-! ## The twelve departure and arrival cells of a device -/

abbrev own (c : Dev nD) (k : Fin 12) : GSem nD τ sig := ((c : Thread nD τ), osem k)

theorem own_send (c : Dev nD) (j : Fin 6) : own c ⟨j.val, by omega⟩ = sendCell j c := rfl
theorem own_recv (c : Dev nD) (j : Fin 6) : own c ⟨6 + j.val, by omega⟩ = recvCell j c := by
  refine congrArg (fun s : DmaSem sig => (((c : Thread nD τ), SemLoc.dma s) : GSem nD τ sig)) (Fin.ext ?_)
  show 6 + (6 + j.val) = 12 + j.val; omega

theorem mem_own (c : Dev nD) (k : Fin 12) : own c k ∈ (barCells ∪ ownCells : Finset (GSem nD τ sig)) :=
  Finset.mem_union_right _ (Finset.mem_map_of_mem ownEmb (Finset.mem_univ (c, k)))

def lowEmb : Fin 6 ↪ Fin 12 := ⟨fun j => ⟨j.val, by omega⟩, fun i j h => Fin.ext (congrArg (fun k : Fin 12 => k.val) h)⟩
def highEmb : Fin 6 ↪ Fin 12 := ⟨fun j => ⟨6 + j.val, by omega⟩, fun i j h => Fin.ext (by have := congrArg (fun k : Fin 12 => k.val) h; dsimp only at this; omega)⟩

theorem bigSep_own (Φ : GSem nD τ sig → sProp 𝕄) (c : Dev nD) :
    (bigSep Finset.univ fun k : Fin 12 => Φ (own c k))
      = iprop((bigSep Finset.univ fun j : Fin 6 => Φ (sendCell j c)) ∗ bigSep Finset.univ fun j : Fin 6 => Φ (recvCell j c)) := by
  rw [show (Finset.univ : Finset (Fin 12)) = Finset.univ.map lowEmb ∪ Finset.univ.map highEmb from by decide,
    BI.bigSep_union (by decide), BI.bigSep_map, BI.bigSep_map]
  refine congrArg₂ _ rfl (bigSep_congr fun j _ => ?_)
  show Φ (own c ⟨6 + j.val, _⟩) = _
  rw [own_recv]

/-! ## What the launch keeps for the region, and the region's invariant -/

/-- The tokens and the credit of piece `j`'s transfer. -/
def rights (c : Dev nD) (j : Fin 6) : sProp 𝕄 :=
  iprop(dutyTok ER (sendCell j c) 0 false ∗ dutyTok ER (recvCell j (peer j c)) 0 false ∗ cred (tallyAt (recvCell j c) () (amt j)))

/-- What concerns the barrier. -/
def barrierPart (c : Dev nD) : sProp 𝕄 :=
  iprop(atPos ER (barCell c) 0 ∅ 0 ∗ cred (tallyAt (barCell c) () 2)
    ∗ dutyTok ER (barCell (near c)) 0 false ∗ reached ER (barCell (near c)) 0
    ∗ dutyTok ER (barCell (far c)) 0 true ∗ reached ER (barCell (far c)) 0)

/-- From launch to the region: every cell's invariant, the rights, the own cells not yet opened. -/
def kept (c : Dev nD) : sProp 𝕄 :=
  iprop((∃ K, known (sent (blocks m)) K) ∗ barrierPart c ∗ (bigSep Finset.univ fun j : Fin 6 => rights c j)
    ∗ bigSep Finset.univ fun k : Fin 12 => openTok ER (own c k))

/-- At the region's entry: the own cells open. -/
def entered (c : Dev nD) : sProp 𝕄 :=
  iprop((∃ K, known (sent (blocks m)) K) ∗ levAts L lv ∗ barrierPart c ∗ (bigSep Finset.univ fun j : Fin 6 => rights c j)
    ∗ bigSep Finset.univ fun k : Fin 12 => iprop(atPos ER (own c k) 0 ∅ 0 ∗ reached ER (own c k) 0))

def anyReg (c : Dev nD) : sProp 𝕄 := iprop(∃ r, prngReg c r)

def invPre (c : Dev nD) : sProp 𝕄 :=
  iprop(Pipeline.scopedRest spec0 c ∗ anyReg c ∗ entered m c)

def invPost (c : Dev nD) : sProp 𝕄 :=
  iprop(Pipeline.scopedRest spec0 c ∗ anyReg c ∗ Pipeline.ownSems0 osem c ∗ semVal (barCell c) 0)

/-- The region's data: the operands are left as they were; the result is the sum. -/
def dat0 (c : Dev nD) : Dat τ (Elt F) Unit ℕ UU ℕ cfg0 c where
  A w := V1 m c (Proc.devRef .tc (Pipeline.arrRef spec0 w))
  after w _ := match w with
    | ⟨0, _⟩ => (blocks m c).x
    | ⟨1, _⟩ => (blocks m c).wq
    | ⟨2, _⟩ => (blocks m c).k
    | ⟨3, _⟩ => (blocks m c).v
    | ⟨4, _⟩ => (blocks m c).wo
    | ⟨5, _⟩ => result m c
    | ⟨_ + 6, h⟩ => absurd h (Nat.not_lt.2 (Nat.le_add_left _ _))
  Φ t := match t with
    | ⟨0, _⟩ => invPre m c
    | ⟨_ + 1, _⟩ => invPost c
  q _ := fullShare
  owed t := match t with
    | ⟨0, _⟩ => due c
    | ⟨_ + 1, _⟩ => 0

abbrev pdats : (p : Fin 1) → (c : Dev nD) → Dat τ (Elt F) Unit ℕ UU ℕ (cfgs p) c := fun _ c => dat0 m c

theorem owesAt_start (c : Dev nD) : ((dat0 m c).owesAt () t0_0.castSucc : sProp 𝕄) ⊢ owing c (due c) := by
  unfold Dat.owesAt Pipeline.owesWithin owing
  rw [show (dat0 m c).owed t0_0.castSucc = due c from rfl]
  iintro ⟨%W, -, HO⟩; iexists W; iexact HO
theorem owesAt_end (c : Dev nD) : (owing c 0 : sProp 𝕄) ⊢ (dat0 m c).owesAt () t0_0.succ := by
  unfold Dat.owesAt Pipeline.owesWithin Dat.bound owing
  rw [show (dat0 m c).owed t0_0.succ = 0 from rfl, show (dat0 m c).recorded t0_0.succ = Set.univ from rfl]
  iintro ⟨%W, HO⟩; iexists W; isplitr; · ipureintro; exact fun _ _ => Or.inl trivial
  iexact HO

end Cert.KernelIdeal.Exchange
-- ==== Proof.Entry.lean ====
/-
  IN AND OUT OF THE BODY: the region's invariant makes what the body's run starts from, and takes what it ends with.
-/
module

public import proofs.«01_k».proof.Proof.Region

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (c : Dev nD)

/-! ## In -/

/-- Everything device `c` holds of piece `j`, in the order the launch and the cut deal it. -/
def dealt (j : Fin 6) : sProp 𝕄 :=
  iprop(rights c j ∗ (atPos ER (sendCell j c) 0 ∅ 0 ∗ reached ER (sendCell j c) 0)
    ∗ (atPos ER (recvCell j c) 0 ∅ 0 ∗ reached ER (recvCell j c) 0) ∗ (∃ f, sendPts j c f) ∗ ∃ f, recvPts j c f)

theorem dealt_sorted (j : Fin 6) : (dealt c j : sProp 𝕄) ⊢ iprop(lent j c ∗ mine c j) := by
  unfold dealt rights lent mine
  iintro ⟨⟨H1, H2, H3⟩, ⟨HaS, HrS⟩, ⟨HaR, HrR⟩, HS, HR⟩
  isplitl [HR HrR]
  · isplitl [HR] <;> iassumption
  isplitl [HaS]; · iexact HaS
  isplitl [HrS]; · iexact HrS
  isplitl [HaR]; · iexact HaR
  isplitl [H1]; · iexact H1
  isplitl [H2]; · iexact H2
  isplitl [H3]; · iexact H3
  iexact HS

theorem bigSep_five (A B C D E : Fin 6 → sProp 𝕄) :
    (bigSep Finset.univ fun j => iprop(A j ∗ B j ∗ C j ∗ D j ∗ E j))
      = iprop(bigSep Finset.univ A ∗ bigSep Finset.univ B ∗ bigSep Finset.univ C ∗ bigSep Finset.univ D ∗ bigSep Finset.univ E) := by
  rw [bigSep_sep', bigSep_sep', bigSep_sep', bigSep_sep']

theorem dealt_all :
    iprop((bigSep Finset.univ fun j : Fin 6 => (rights c j : sProp 𝕄))
        ∗ (bigSep Finset.univ fun k : Fin 12 => iprop(atPos ER (own c k) 0 ∅ 0 ∗ reached ER (own c k) 0))
        ∗ (bigSep Finset.univ fun j : Fin 6 => iprop(∃ f, sendPts j c f)) ∗ bigSep Finset.univ fun j : Fin 6 => iprop(∃ f, recvPts j c f))
      ⊢ iprop((lent 0 c ∗ lent 1 c ∗ lent 2 c ∗ lent 3 c ∗ lent 4 c ∗ lent 5 c)
        ∗ (mine c 0 ∗ mine c 1 ∗ mine c 2 ∗ mine c 3 ∗ mine c 4 ∗ mine c 5)) := by
  have e : (bigSep Finset.univ fun j : Fin 6 => (dealt c j : sProp 𝕄)) ⊢ bigSep Finset.univ fun j : Fin 6 => iprop(lent j c ∗ mine c j) :=
    bigSep_mono fun j _ => dealt_sorted c j
  have d : iprop((bigSep Finset.univ fun j : Fin 6 => (rights c j : sProp 𝕄))
        ∗ ((bigSep Finset.univ fun j : Fin 6 => iprop(atPos ER (sendCell j c) 0 ∅ 0 ∗ reached ER (sendCell j c) 0))
          ∗ bigSep Finset.univ fun j : Fin 6 => iprop(atPos ER (recvCell j c) 0 ∅ 0 ∗ reached ER (recvCell j c) 0))
        ∗ (bigSep Finset.univ fun j : Fin 6 => iprop(∃ f, sendPts j c f)) ∗ bigSep Finset.univ fun j : Fin 6 => iprop(∃ f, recvPts j c f))
      ⊢ bigSep Finset.univ fun j : Fin 6 => (dealt c j : sProp 𝕄) := by
    unfold dealt
    rw [bigSep_five (fun j => rights c j)]
    iintro ⟨H1, ⟨H2, H3⟩, H4, H5⟩
    isplitl [H1]; · iexact H1
    isplitl [H2]; · iexact H2
    isplitl [H3]; · iexact H3
    isplitl [H4] <;> iassumption
  rw [← bigSep_six (fun j => lent j c), ← bigSep_six (fun j => mine c j),
    bigSep_own (fun g => iprop(atPos ER g 0 ∅ 0 ∗ reached ER g 0)) c]
  exact (d.trans e).trans (Entails.of_eq (bigSep_sep' _ _ _))

theorem enter (f : Buf (Elt F) ((c : Thread nD τ).loc cc0_stg5_0)) :
    iprop(invPre m c ∗ owing c (due c) ∗ operands c (blocks m c) ∗ ((c : Thread nD τ).loc cc0_stg5_0 ↦{fullShare} f))
      ⊢ iprop((∃ K, known (sent (blocks m)) K ∗ bodyPre (blocks m) K c) ∗ leftover c ∗ anyReg c) := by
  unfold invPre entered barrierPart
  iintro ⟨⟨Hs, Hp, ⟨%K, #HK⟩, #Hlev, ⟨Hat, Hc, HtN, HrN, HtF, HrF⟩, Hri, Hown⟩, HO, Hop, Hout⟩
  ihave Hcut := (cut_scratch (F := F) c) $$ Hs
  icases Hcut with ⟨HS, HR, Hl⟩
  ihave Hd := (dealt_all (F := F) c) $$ [Hri Hown HS HR]
  · isplitl [Hri]; · iexact Hri
    isplitl [Hown]; · iexact Hown
    isplitl [HS] <;> iassumption
  icases Hd with ⟨Hlent, Hmine⟩
  ihave Ho := (cut_result c f) $$ Hout
  isplitr [Hl Hp]
  · iexists K
    isplitr; · iexact HK
    unfold bodyPre
    isplitr; · iexact HK
    isplitr; · iexact Hlev
    isplitl [HO]; · iexact HO
    isplitl [Hat]; · iexact Hat
    isplitl [Hc]; · iexact Hc
    isplitl [HtN]; · iexact HtN
    isplitl [HrN]; · iexact HrN
    isplitl [HtF]; · iexact HtF
    isplitl [HrF]; · iexact HrF
    isplitl [Hlent]; · iexact Hlent
    isplitl [Hmine]; · iexact Hmine
    isplitl [Hop]; · iexact Hop
    iexists f; iexact Ho
  isplitl [Hl] <;> iassumption

/-! ## Out -/

theorem spent_all :
    iprop(spent c 0 ∗ spent c 1 ∗ spent c 2 ∗ spent c 3 ∗ spent c 4 ∗ spent c 5)
      ⊢ iprop((bigSep Finset.univ fun k : Fin 12 => (atPos ER (own c k) 1 ∅ 0 : sProp 𝕄))
        ∗ (bigSep Finset.univ fun j : Fin 6 => iprop(∃ f, sendPts j c f)) ∗ bigSep Finset.univ fun j : Fin 6 => iprop(∃ f, recvPts j c f)) := by
  rw [← bigSep_six (fun j => spent c j), bigSep_own (fun g => (atPos ER g 1 ∅ 0 : sProp 𝕄)) c]
  unfold spent
  rw [bigSep_sep', bigSep_sep', bigSep_sep']
  iintro ⟨H1, H2, H3, H4⟩
  isplitl [H1 H2]
  · isplitl [H1] <;> iassumption
  isplitl [H3] <;> iassumption

/-- Every cell of the device is closed: its counter reads zero and it may be left. -/
theorem close_all (S : Dev nD → (j : Fin 6) → Piece F j) (K : GSem nD τ sig → ℕ) :
    iprop(known S K ∗ atPos ER (barCell c) 1 ∅ 0 ∗ bigSep Finset.univ fun k : Fin 12 => (atPos ER (own c k) 1 ∅ 0 : sProp 𝕄))
      ⊢ (|={Set.univ}=> iprop(semVal (barCell c) 0 ∗ Pipeline.ownSems0 osem c) : sProp 𝕄) := by
  iintro ⟨#HK, Hb, Ho⟩
  imod (Rounds.cell_close ER (sched S) (g := barCell c) (Set.mem_univ (K (barCell c))) (fun h => h) (R := 1) (duties_later S _)) $$ [Hb] with Hb0
  · isplitr; · iapply (known_at S K (mem_bar c)); iexact HK
    iexact Hb
  imod (Rounds.cells_close ER (sched S) (Finset.univ : Finset (Fin 12)) (own c) (fun k => K (own c k)) (fun k _ => Set.mem_univ _)
      (fun k _ h => h) (fun _ => 1) (fun k _ => duties_later S _)) $$ [Ho] with Ho0
  · iapply (bigSep_with_persistent (R := known S K) (Φ := fun k : Fin 12 => (atPos ER (own c k) 1 ∅ 0 : sProp 𝕄))
      (Ψ := fun k : Fin 12 => iprop(cellInv ER (sched S) (K (own c k)) (own c k) ∗ atPos ER (own c k) 1 ∅ 0))
      fun k _ => BIClass.sep_mono (known_at S K (mem_own c k)) (BI.Entails.refl _))
    isplitr; · iexact HK
    iexact Ho
  imodintro
  isplitl [Hb0]; · iexact Hb0
  unfold Pipeline.ownSems0
  iexact Ho0

theorem leave (K : GSem nD τ sig → ℕ) :
    iprop(known (sent (blocks m)) K ∗ bodyPost (blocks m) c ∗ leftover c ∗ anyReg c)
      ⊢ (|={Set.univ}=> iprop(invPost c ∗ owing c 0 ∗ operands c (blocks m c) ∗ ((c : Thread nD τ).loc cc0_stg5_0 ↦{fullShare} result m c)) : sProp 𝕄) := by
  unfold bodyPost invPost result
  iintro ⟨#HK, ⟨HO, Hb, Hsp, Hop, Hr⟩, Hl, Hp⟩
  ihave Hs := (spent_all (F := F) c) $$ Hsp
  icases Hs with ⟨Hat, HS, HR⟩
  imod (close_all c (sent (blocks m)) K) $$ [Hb Hat] with ⟨Hb0, Ho0⟩
  · isplitr; · iexact HK
    isplitl [Hb] <;> iassumption
  imodintro
  isplitl [HS HR Hl Hp Hb0 Ho0]
  · isplitl [HS HR Hl]
    · iapply (join_scratch (F := F) c)
      isplitl [HS]; · iexact HS
      isplitl [HR] <;> iassumption
    isplitl [Hp]; · iexact Hp
    isplitl [Ho0] <;> iassumption
  isplitl [HO]; · iexact HO
  isplitl [Hop]; · iexact Hop
  iapply (join_result c (total (blocks m) c))
  iexact Hr

end Cert.KernelIdeal.Exchange
-- ==== Proof.Talk.lean ====
/-
  THE REGION AS A SEGMENT: the body's obligation, and the record of a kernel that talks across devices.
-/
module

public import proofs.«01_k».proof.Proof.Entry
public import Idealize.ShloMosaic.Lib.Pipeline.ValueKit

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

set_option maxHeartbeats 2000000 in
theorem body_meets (c : Dev nD) : BodyObligation (dat0 m c) (defs₀ (F := F)) 𝒱₀ () Set.univ := fun t => by
  obtain rfl := fin_N0 t
  rw [bigSep_W0, bigSep_W0]
  rw [show (dat0 m c).Φ t0_0.castSucc = invPre m c from rfl, show (dat0 m c).Φ t0_0.succ = invPost c from rfl]
  simp only [owns_whole_eq]
  iintro ⟨Hinv, HO, ⟨%d0, %g0, %h0, Hx⟩, ⟨%d1, %g1, %h1, Hwq⟩, ⟨%d2, %g2, %h2, Hk⟩, ⟨%d3, %g3, %h3, Hv⟩, ⟨%d4, %g4, %h4, Hwo⟩, ⟨%d5, %g5, %h5, Hout⟩⟩
  have e0 : g0 = (blocks m c).x := by rw [h0]; unfold Dat.before; rw [if_pos (fetch0_0 t0_0)]; rfl
  have e1 : g1 = (blocks m c).wq := by rw [h1]; unfold Dat.before; rw [if_pos (fetch0_1 t0_0)]; rfl
  have e2 : g2 = (blocks m c).k := by rw [h2]; unfold Dat.before; rw [if_pos (fetch0_2 t0_0)]; rfl
  have e3 : g3 = (blocks m c).v := by rw [h3]; unfold Dat.before; rw [if_pos (fetch0_3 t0_0)]; rfl
  have e4 : g4 = (blocks m c).wo := by rw [h4]; unfold Dat.before; rw [if_pos (fetch0_4 t0_0)]; rfl
  subst e0 e1 e2 e3 e4
  ihave HO' := (owesAt_start m c) $$ HO
  ihave Hin := (enter m c g5) $$ [Hinv HO' Hx Hwq Hk Hv Hwo Hout]
  · isplitl [Hinv]; · iexact Hinv
    isplitl [HO']; · iexact HO'
    isplitr [Hout]
    · unfold operands
      isplitl [Hx]; · iexact Hx
      isplitl [Hwq]; · iexact Hwq
      isplitl [Hk]; · iexact Hk
      isplitl [Hv] <;> iassumption
    iexact Hout
  icases Hin with ⟨⟨%K, #HK, Hpre⟩, Hl, Hp⟩
  iapply (body_run (blocks m) K c _)
  isplitl [Hpre]; · iexact Hpre
  iintro Hpost
  imod (leave m c K) $$ [Hpost Hl Hp] with ⟨Hinv, HO, Hop, Hout⟩
  · isplitr; · iexact HK
    isplitl [Hpost]; · iexact Hpost
    isplitl [Hl] <;> iassumption
  imodintro
  isplitl [Hinv]; · iexact Hinv
  isplitl [HO]; · iapply (owesAt_end m c); iexact HO
  unfold operands
  icases Hop with ⟨Hx, Hwq, Hk, Hv, Hwo⟩
  isplitl [Hx]; · iexists _; isplitr; · (ipureintro; rfl)
                  iexact Hx
  isplitl [Hwq]; · iexists _; isplitr; · (ipureintro; rfl)
                   iexact Hwq
  isplitl [Hk]; · iexists _; isplitr; · (ipureintro; rfl)
                  iexact Hk
  isplitl [Hv]; · iexists _; isplitr; · (ipureintro; rfl)
                  iexact Hv
  isplitl [Hwo]; · iexists _; isplitr; · (ipureintro; rfl)
                   iexact Hwo
  iexists _; isplitr; · (ipureintro; rfl)
  iexact Hout

end Cert.KernelIdeal.Exchange
-- ==== Proof.Segment.lean ====
/-
  THE REGION'S RECORD: the kernel as a segment of @main, between what the host operations leave and what is returned.
-/
module

public import proofs.«01_k».proof.Proof.Talk

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## Opening the cells -/

theorem open_cells (c : Dev nD) :
    iprop(kept m c ∗ Pipeline.ownSems0 osem c ∗ levAts L lv) ⊢ (|={Set.univ}=> entered m c : sProp 𝕄) := by
  unfold kept entered Pipeline.ownSems0
  iintro ⟨⟨⟨%K, #HK⟩, Hb, Hr, Ho⟩, Hs, #Hlev⟩
  imod (Rounds.cells_open ER (sched (sent (blocks m))) (Finset.univ : Finset (Fin 12)) (own c) (fun k => K (own c k)) (fun k _ => Set.mem_univ _))
    $$ [Ho Hs] with Hown
  · isplitl [Ho]
    · iapply (bigSep_with_persistent (R := known (sent (blocks m)) K) (Φ := fun k : Fin 12 => (openTok ER (own c k) : sProp 𝕄))
        (Ψ := fun k : Fin 12 => iprop(cellInv ER (sched (sent (blocks m))) (K (own c k)) (own c k) ∗ openTok ER (own c k)))
        fun k _ => BIClass.sep_mono (known_at (sent (blocks m)) K (mem_own c k)) (BI.Entails.refl _))
      isplitr; · iexact HK
      iexact Ho
    iexact Hs
  imodintro
  isplitr; · iexists K; iexact HK
  isplitr; · iexact Hlev
  isplitl [Hb]; · iexact Hb
  isplitl [Hr] <;> iassumption

/-! ## The arrays -/

theorem V2_other (c : Dev nD) (r : Ref sig .tc) (h : r ≠ main_v15) : V2 m (outs m) c r = V1 m c r :=
  V2_of m (outs m) c r (by simpa using h)

theorem outs_result (c : Dev nD) : outs m 2 main_v15 c = result m c := dif_pos rfl

theorem V2_result (c : Dev nD) : V2 m (outs m) c main_v15 = result m c := by
  show Function.update (V1 m c) main_v15 (outs m 2 main_v15 c) main_v15 = _
  rw [Function.update_self, outs_result]

theorem result_array (c : Dev nD) : (dat0 m c).arrAt 5 cfg0.N = (result m c : Buf (Elt F) _) := by
  refine (dat0 m c).arrAt_eq_of_after_last 5 t0_0 (by decide +kernel) _ fun j => ?_
  blk_simp
  rfl

/-- An operand's array is the same at the end. -/
theorem operand_array (c : Dev nD) (w : Fin 6) (h : w ≠ 5) : (dat0 m c).arrAt w cfg0.N = V1 m c (Proc.devRef .tc (Pipeline.arrRef spec0 w)) := by
  refine ((dat0 m c).arrAt_in w ?_ _).trans rfl
  revert h; revert w; decide

theorem arrays_end (c : Dev nD) : ∀ w : Fin 6, (dat0 m c).arrAt w cfg0.N = V2 m (outs m) c (Proc.devRef .tc (Pipeline.arrRef spec0 w))
  | 0 => (operand_array m c 0 (by decide)).trans (V2_other m c main_arg0 (by decide)).symm
  | 1 => (operand_array m c 1 (by decide)).trans (V2_other m c main_arg1 (by decide)).symm
  | 2 => (operand_array m c 2 (by decide)).trans (V2_other m c main_v9 (by decide)).symm
  | 3 => (operand_array m c 3 (by decide)).trans (V2_other m c main_v14 (by decide)).symm
  | 4 => (operand_array m c 4 (by decide)).trans (V2_other m c main_arg4 (by decide)).symm
  | 5 => (result_array m c).trans (V2_result m c).symm

/-! ## The record -/

theorem due_pos {c : Dev nD} {g : GSem nD τ sig} {u : Unit} (h : 0 < due c g u) : u ∈ L g ∧ 0 < lv g u := by
  have tally {p : GSem nD τ sig} (hp : 0 < (tallyAt p () 1 : CellTallies nD τ sig Unit) g u) : g = p := by
    rw [tallyAt_apply] at hp
    split at hp
    · next hg => exact hg.1
    · exact absurd hp (Nat.lt_irrefl 0)
  have bar (p : Dev nD) : u ∈ L (barCell p) ∧ 0 < lv (barCell p) u := ⟨by rw [L_tc]; exact Finset.mem_singleton_self _, by show 0 < 1; decide⟩
  unfold due at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, -, rfl⟩ := debt_pos h
      refine ⟨by rw [L_tc]; exact Finset.mem_singleton_self _, ?_⟩
      rw [lv_recv]; split <;> decide
    · obtain rfl := tally h; exact bar _
  · obtain rfl := tally h; exact bar _

theorem owed_level (c : Dev nD) (t : Fin (cfg0.N + 1)) (g : GSem nD τ sig) (i : Unit) (h : 0 < (dat0 m c).owed t g i) : i ∈ L g ∧ 0 < lv g i := by
  match t, h with
  | ⟨0, _⟩, h => exact due_pos h
  | ⟨_ + 1, _⟩, h => exact absurd h (Nat.lt_irrefl 0)

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

abbrev rest : Finset (DevRef τ sig) := Pipeline.ucRefs τ sig \ Pipeline.arrRefs (τ := τ) spec0

theorem rest_same (c : Dev nD) (b : DevRef τ sig) (hb : b ∈ rest) : V2 m (outs m) c b = V1 m c b := by
  refine Function.update_of_ne (fun h => ?_) _ _
  rw [h] at hb
  exact (Finset.mem_sdiff.mp hb).2 (Finset.mem_map_of_mem _ (Finset.mem_image.mpr ⟨5, Finset.mem_univ _, rfl⟩))

theorem arrays_sub : Pipeline.arrRefs (τ := τ) spec0 ⊆ Pipeline.ucRefs τ sig := Pipeline.arrRefs_sub_ucRefs _ (by decide)

theorem shares (c : Dev nD) (w : Fin 6) : (dat0 m c).share w = fullShare := by unfold Dat.share; split <;> rfl

theorem staging_low : ∀ (w : Fin 6) (s : Fin (spec0 w).nbuf), ((spec0 w).sem s).val < 12 := by decide
theorem staging_level (c : Dev nD) (w : Fin 6) (s : Fin (spec0 w).nbuf) : lv ((c : Thread nD τ), SemLoc.dma ((spec0 w).sem s)) () ≤ 0 := by
  have h := staging_low w s
  show (if 15 ≤ ((spec0 w).sem s).val then 3 else if 12 ≤ ((spec0 w).sem s).val then 2 else 0) ≤ 0
  rw [if_neg (by omega), if_neg (by omega)]

theorem region_in (c : Dev nD) :
    iprop(Pipeline.scopedRest spec0 c ∗ (∃ r, prngReg c r) ∗ StableHlo.held (c.tc : Thread nD τ) ∅ (V1 m c) ∗ entered m c) ⊢ invPre m c := by
  unfold invPre anyReg
  iintro ⟨Hs, Hp, -, He⟩
  isplitl [Hs]; · iexact Hs
  isplitl [Hp] <;> iassumption

theorem region_out (c : Dev nD) :
    (invPost c : sProp 𝕄) ⊢ iprop(Pipeline.scopedRest spec0 c ∗ (∃ r, prngReg c r) ∗ StableHlo.held (c.tc : Thread nD τ) ∅ (V2 m (outs m) c)
      ∗ Pipeline.ownSems0 osem c ∗ semVal (barCell c) 0) := by
  unfold invPost anyReg StableHlo.held
  rw [BI.bigSep_empty]
  iintro ⟨Hs, Hp, Ho, Hb⟩
  isplitl [Hs]; · iexact Hs
  isplitl [Hp]; · iexact Hp
  isplitr; · iempintro
  isplitl [Ho] <;> iassumption

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ rest (Finset.empty_subset _) kitP rfl (fun c => (body_meets m c).loose)
    (fun _ => 0) due (fun c => (zero_add _).symm) (fun _ => rfl) (fun _ => rfl) (shares m)
    (V1 m) (V2 m (outs m)) (fun c b hb => rest_same m c b (Finset.mem_sdiff.mp hb).1)
    (kept m) (fun c => semVal (barCell c) 0) (entered m) (fun c => semVal (barCell c) 0) (open_cells m) (region_in m) (region_out m)
    (fun c => by iintro H; imodintro; iexact H)
    (fun _ => 0)
    ⟨fun c w s => by rw [L_tc]; exact Finset.mem_singleton_self _, fun c w s => staging_level c w s, owed_level m⟩
    (fun _ => iprop(emp))
    (fun c w => rfl) (arrays_end m)

theorem reg0_pre (c : Dev nD) :
    iprop(StableHlo.held (c : Thread nD τ) (Pipeline.ucRefs τ sig) (V1 m c) ∗ anyReg c ∗ kept m c ∗ owing c (due c)) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) rest (V1 m c) ∗ emp) ∗ kept m c ∗ ∃ Wd, owes (c : Thread nD τ) (0 + due c) Wd)
  rw [StableHlo.held_sub_split (c : Thread nD τ) arrays_sub (V1 m c), zero_add]
  unfold anyReg owing
  iintro ⟨⟨Ha, Hr⟩, Hp, Hk, HO⟩
  isplitl [Ha]; · iexact Ha
  isplitl [Hp]; · iexact Hp
  isplitl [Hr]
  · isplitl [Hr]; · iexact Hr
    iempintro
  isplitl [Hk] <;> iassumption

theorem reg0_post (c : Dev nD) :
    (reg0 m).post c ⊢ iprop((StableHlo.held (c : Thread nD τ) (Pipeline.ucRefs τ sig) (V2 m (outs m) c) ∗ semVal (barCell c) 0)
      ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) rest (V2 m (outs m) c) ∗ emp) ∗ semVal (barCell c) 0 ∗ ∃ Wd, owes (c : Thread nD τ) (0 : CellTallies nD τ sig Unit) Wd) ⊢ _
  rw [StableHlo.held_sub_split (c : Thread nD τ) arrays_sub (V2 m (outs m) c)]
  iintro ⟨Ha, -, ⟨Hr, -⟩, Hb, HO⟩
  isplitr [HO]
  · isplitr [Hb]
    · isplitl [Ha] <;> iassumption
    iexact Hb
  iexact HO

end Cert.KernelIdeal.Exchange
-- ==== Proof.Launch.lean ====
/-
  THE LAUNCH: every cell's invariant is allocated, every token and credit dealt to the device that uses it.
-/
module

public import proofs.«01_k».proof.Proof.Segment

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-! ## The tokens -/

/-- The two duties of each barrier cell, and the one of each departure and arrival cell. -/
def barTok : Dev nD × Bool ↪ GSem nD τ sig × ℕ × Bool :=
  ⟨fun cb => (barCell cb.1, 0, cb.2), fun _ _ h =>
    Prod.ext (congrArg (fun t : GSem nD τ sig × ℕ × Bool => t.1.1.1) h) (congrArg (fun t : GSem nD τ sig × ℕ × Bool => t.2.2) h)⟩
def ownTok : Dev nD × Fin 12 ↪ GSem nD τ sig × ℕ × Bool :=
  ⟨fun ck => (own ck.1 ck.2, 0, false), fun _ _ h => ownEmb.injective (congrArg Prod.fst h)⟩
theorem dma_ne_reg {s : DmaSem sig} {r} : (SemLoc.dma s : SemLoc sig) ≠ .reg r := fun h => by cases h

def tokens : Finset (GSem nD τ sig × ℕ × Bool) := Finset.univ.map barTok ∪ Finset.univ.map ownTok

theorem tokens_disjoint : Disjoint (Finset.univ.map barTok) (Finset.univ.map ownTok) := by
  rw [Finset.disjoint_left]
  rintro g h₁ h₂
  obtain ⟨c, -, rfl⟩ := Finset.mem_map.mp h₁
  obtain ⟨ck, -, h⟩ := Finset.mem_map.mp h₂
  exact absurd (congrArg (fun t : GSem nD τ sig × ℕ × Bool => t.1.2) h) dma_ne_reg

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact absurd (congrArg Prod.snd h) dma_ne_reg

theorem bigSep_two (Φ : Bool → sProp 𝕄) : bigSep Finset.univ Φ = iprop(Φ false ∗ Φ true) := by
  rw [show (Finset.univ : Finset Bool) = {false, true} from by decide, bigSep_insert (by decide), bigSep_singleton]
  rfl

def nearEquiv : Dev nD ≃ Dev nD := ⟨near, near, near_near, near_near⟩
def farEquiv : Dev nD ≃ Dev nD := ⟨far, far, far_far, far_far⟩
/-- A device and a piece, to the piece's peer and the piece. -/
def pairEquiv : Dev nD × Fin 6 ≃ Dev nD × Fin 6 :=
  ⟨fun cj => (peer cj.2 cj.1, cj.2), fun cj => (peer cj.2 cj.1, cj.2), fun cj => Prod.ext (peer_peer cj.2 cj.1) rfl, fun cj => Prod.ext (peer_peer cj.2 cj.1) rfl⟩

/-- The tokens device `c` uses: its partners' barrier cells', its own departures', its partners' arrivals'. -/
def tokensOf (c : Dev nD) : sProp 𝕄 :=
  iprop((dutyTok ER (barCell (near c)) 0 false ∗ dutyTok ER (barCell (far c)) 0 true)
    ∗ (bigSep Finset.univ fun j : Fin 6 => dutyTok ER (sendCell j c) 0 false)
    ∗ bigSep Finset.univ fun j : Fin 6 => dutyTok ER (recvCell j (peer j c)) 0 false)

theorem recv_tokens : (bigSep Finset.univ fun c : Dev nD => bigSep Finset.univ fun j : Fin 6 => (dutyTok ER (recvCell j c) 0 false : sProp 𝕄))
    = bigSep Finset.univ fun c : Dev nD => bigSep Finset.univ fun j : Fin 6 => dutyTok ER (recvCell j (peer j c)) 0 false := by
  exact (bigSep_univ_prod fun cj : Dev nD × Fin 6 => (dutyTok ER (recvCell cj.2 cj.1) 0 false : sProp 𝕄)).symm.trans
    ((bigSep_univ_equiv pairEquiv fun cj : Dev nD × Fin 6 => (dutyTok ER (recvCell cj.2 cj.1) 0 false : sProp 𝕄)).trans
      (bigSep_univ_prod fun cj : Dev nD × Fin 6 => (dutyTok ER (recvCell cj.2 (peer cj.2 cj.1)) 0 false : sProp 𝕄)))

theorem deal_tokens : (bigSep tokens fun x => (dutyTok ER x.1 x.2.1 x.2.2 : sProp 𝕄)) ⊢ bigSep Finset.univ fun c : Dev nD => (tokensOf c : sProp 𝕄) := by
  have b : (bigSep (Finset.univ.map barTok) fun x => (dutyTok ER x.1 x.2.1 x.2.2 : sProp 𝕄))
      = iprop((bigSep Finset.univ fun c : Dev nD => dutyTok ER (barCell (near c)) 0 false)
        ∗ bigSep Finset.univ fun c : Dev nD => dutyTok ER (barCell (far c)) 0 true) := by
    have e (c : Dev nD) : (bigSep Finset.univ fun b : Bool => (dutyTok ER (barTok (c, b)).1 (barTok (c, b)).2.1 (barTok (c, b)).2.2 : sProp 𝕄))
        = iprop(dutyTok ER (barCell c) 0 false ∗ dutyTok ER (barCell c) 0 true) := bigSep_two fun b : Bool => (dutyTok ER (barCell c) 0 b : sProp 𝕄)
    rw [BI.bigSep_map, bigSep_univ_prod, bigSep_congr fun c _ => e c,
      bigSep_sep', bigSep_univ_equiv nearEquiv fun c : Dev nD => (dutyTok ER (barCell c) 0 false : sProp 𝕄),
      bigSep_univ_equiv farEquiv fun c : Dev nD => (dutyTok ER (barCell c) 0 true : sProp 𝕄)]
    rfl
  have o : (bigSep (Finset.univ.map ownTok) fun x => (dutyTok ER x.1 x.2.1 x.2.2 : sProp 𝕄))
      = iprop((bigSep Finset.univ fun c : Dev nD => bigSep Finset.univ fun j : Fin 6 => dutyTok ER (sendCell j c) 0 false)
        ∗ bigSep Finset.univ fun c : Dev nD => bigSep Finset.univ fun j : Fin 6 => dutyTok ER (recvCell j (peer j c)) 0 false) := by
    rw [← recv_tokens, ← bigSep_sep', BI.bigSep_map, bigSep_univ_prod]
    exact bigSep_congr fun c _ => bigSep_own (fun g => (dutyTok ER g 0 false : sProp 𝕄)) c
  unfold tokens tokensOf
  rw [BI.bigSep_union tokens_disjoint, b, o, bigSep_sep', bigSep_sep', bigSep_sep']
  exact Idealize.SL.BI.Entails.refl _

/-! ## The credits -/

theorem recv_dev {j : Fin 6} {c d : Dev nD} (h : recvCell j c = recvCell j d) : c = d := congrArg (fun g : GSem nD τ sig => g.1.1) h
theorem bar_dev {c d : Dev nD} (h : barCell c = barCell d) : c = d := congrArg (fun g : GSem nD τ sig => g.1.1) h
theorem recv_piece {i j : Fin 6} {c d : Dev nD} (h : recvCell i c = recvCell j d) : i = j := by
  have h2 : (SemLoc.dma (recvSem i) : SemLoc sig) = .dma (recvSem j) := congrArg Prod.snd h
  have h3 : recvSem i = recvSem j := SemLoc.dma.inj h2
  have h4 : 12 + i.val = 12 + j.val := congrArg (fun s : DmaSem sig => s.val) h3
  exact Fin.ext (by omega)
theorem bar_ne_recv (j : Fin 6) (c d : Dev nD) : barCell c ≠ recvCell j d := fun h => absurd (congrArg Prod.snd h).symm dma_ne_reg

theorem debt_at_bar (d c : Dev nD) : debt d 0 (barCell c) () = 0 := by
  by_contra h
  obtain ⟨j, -, e⟩ := debt_pos (Nat.pos_of_ne_zero h)
  exact bar_ne_recv j _ _ e

theorem debt_at_recv (d c : Dev nD) (j : Fin 6) : debt d 0 (recvCell j c) () = if d = peer j c then amt j else 0 := by
  unfold debt
  rw [Finset.sum_apply, Finsupp.finset_sum_apply, Finset.sum_eq_single_of_mem j (by simp)]
  · rw [tallyAt_apply]
    by_cases h : d = peer j c
    · subst h; rw [peer_peer, if_pos ⟨rfl, rfl⟩, if_pos rfl]
    · rw [if_neg (fun ⟨e, _⟩ => h (by rw [recv_dev e, peer_peer])), if_neg h]
  · intro i _ hi
    rw [tallyAt_apply, if_neg (fun ⟨e, _⟩ => hi (recv_piece e).symm)]

theorem tally_bar (d c : Dev nD) (f : Dev nD → Dev nD) (hf : ∀ x, f (f x) = x) :
    (tallyAt (barCell (f d)) () 1 : CellTallies nD τ sig Unit) (barCell c) () = if d = f c then 1 else 0 := by
  rw [tallyAt_apply]
  by_cases h : d = f c
  · subst h; rw [hf, if_pos ⟨rfl, rfl⟩, if_pos rfl]
  · rw [if_neg (fun ⟨e, _⟩ => h (by rw [bar_dev e, hf])), if_neg h]

theorem due_at_bar (d c : Dev nD) : due d (barCell c) () = (if d = far c then 1 else 0) + (if d = near c then 1 else 0) := by
  unfold due
  rw [Pi.add_apply, Finsupp.add_apply, Pi.add_apply, Finsupp.add_apply, debt_at_bar, tally_bar d c far far_far, tally_bar d c near near_near, zero_add]

theorem due_at_recv (d c : Dev nD) (j : Fin 6) : due d (recvCell j c) () = if d = peer j c then amt j else 0 := by
  unfold due
  rw [Pi.add_apply, Finsupp.add_apply, Pi.add_apply, Finsupp.add_apply, debt_at_recv,
    tallyAt_ne_cell (fun h => bar_ne_recv j _ _ h.symm), tallyAt_ne_cell (fun h => bar_ne_recv j _ _ h.symm)]
  rfl

theorem credit_bar (c : Dev nD) :
    tallyOn (barCell c) (launchCredit (Pipeline.owing due) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => due_at_bar d c, Finset.sum_add_distrib,
    Finset.sum_ite_eq' Finset.univ (far c) fun _ => 1, Finset.sum_ite_eq' Finset.univ (near c) fun _ => 1,
    if_pos (Finset.mem_univ _), if_pos (Finset.mem_univ _)]

theorem credit_recv (c : Dev nD) (j : Fin 6) :
    tallyOn (recvCell j c) (launchCredit (Pipeline.owing due) 0 (recvCell j c)) = (tallyAt (recvCell j c) () (amt j) : CellTallies nD τ sig Unit) := by
  unfold tallyAt; refine congrArg _ (Finsupp.ext fun u => ?_); cases u
  rw [Pipeline.launchCredit_owing, Finsupp.single_eq_same, Finset.sum_congr rfl fun d _ => due_at_recv d c j,
    Finset.sum_ite_eq' Finset.univ (peer j c) fun _ => amt j, if_pos (Finset.mem_univ _)]

def recvEmb : Fin 6 ↪ SemLoc sig := ⟨fun j => .dma (recvSem j), fun i j h => recv_piece (c := 0) (d := 0) (congrArg (fun s => (((0 : Dev nD) : Thread nD τ), s)) h)⟩

theorem credits (c : Dev nD) :
    (Pipeline.launchCred due c : sProp 𝕄)
      ⊢ iprop(cred (tallyAt (barCell c) () 2) ∗ bigSep Finset.univ fun j : Fin 6 => cred (tallyAt (recvCell j c) () (amt j))) := by
  unfold Pipeline.launchCred
  rw [bigSep_univ_at _ (SemLoc.reg barrier0), credit_bar]
  refine sep_mono_right ?_
  rw [← bigSep_congr fun (j : Fin 6) _ => congrArg (fun x => (cred x : sProp 𝕄)) (credit_recv c j)]
  refine (bigSep_subset (t := Finset.univ.map recvEmb) fun s hs => ?_).trans (Entails.of_eq (BI.bigSep_map recvEmb))
  obtain ⟨j, -, rfl⟩ := Finset.mem_map.mp hs
  exact Finset.mem_erase.mpr ⟨dma_ne_reg, Finset.mem_univ _⟩

end Cert.KernelIdeal.Exchange
-- ==== Proof.Run.lean ====
/-
  THE RUN of @main on the four devices: it ends, the arguments as launched, the result at the sum, every counter zero.
-/
module

public import proofs.«01_k».proof.Proof.Launch

@[expose] public section

noncomputable section

namespace Cert.KernelIdeal.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)

variable {F : FTy → Type} [FloatOps F]

local notation "𝕄" => MT nD τ sig Unit (Elt F) ℕ UU ℕ

variable (m : (ℓ : Loc nD τ sig) → Buf (Elt F) ℓ)

/-! ## The launch's resources, dealt -/

/-- The launch element: the pipeline's, and the protocol's. -/
def u₀ : UU :=
  (initOf (Pipeline.cells (Pipeline.pin (pcfgs (F := F)) adm) cellOf_inj) (Pipeline.launchToks (Pipeline.pin (pcfgs (F := F)) adm) cellOf_inj),
    launchOf barCells ownCells tokens)

/-- A resource held by one device until it is dealt. -/
def atFirst (X : sProp 𝕄) (c : Dev nD) : sProp 𝕄 := if c = 0 then X else iprop(emp)
theorem bigSep_atFirst (X : sProp 𝕄) : bigSep Finset.univ (atFirst X) = X := by
  rw [bigSep_univ_at _ 0, bigSep_congr (s := Finset.univ.erase 0) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp

def ghost : Dev nD → sProp 𝕄 := atFirst (BI.own (ER (launchOf barCells ownCells tokens)))

/-- What every device may consult: the invariants, and that every barrier cell is at its first round. -/
def records (K : GSem nD τ sig → ℕ) : sProp 𝕄 :=
  iprop(known (sent (blocks m)) K ∗ bigSep barCells fun g => reached ER g 0)
instance records_persistent (K : GSem nD τ sig → ℕ) : BI.Persistent (records m K) := by unfold records; infer_instance

theorem reached_bar (c : Dev nD) : (bigSep barCells fun g => (reached ER g 0 : sProp 𝕄)) ⊢ reached ER (barCell c) 0 :=
  bigSep_elim (Finset.mem_map_of_mem barEmb (Finset.mem_univ c))

/-- What the protocol's launch gives device `c` alone. -/
def share (c : Dev nD) : sProp 𝕄 :=
  iprop(atPos ER (barCell c) 0 ∅ 0 ∗ (bigSep Finset.univ fun k : Fin 12 => openTok ER (own c k)) ∗ tokensOf c)

/-- What else device `c` holds. -/
def bundle (c : Dev nD) : sProp 𝕄 :=
  iprop(StableHlo.held (c : Thread nD τ) (Pipeline.ucRefs τ sig) (V0 m c)
    ∗ (cred (tallyAt (barCell c) () 2) ∗ bigSep Finset.univ fun j : Fin 6 => cred (tallyAt (recvCell j c) () (amt j)))
    ∗ owing c (due c) ∗ anyReg c)

/-- What rides along with the buffers through the host operations. -/
def rides (c : Dev nD) : sProp 𝕄 := iprop(anyReg c ∗ kept m c ∗ owing c (due c))
abbrev Ev : Fin 2 → Dev nD → sProp 𝕄 := fun _ c => rides m c
abbrev T₀ (c : Dev nD) : sProp 𝕄 := iprop(StableHlo.held (c : Thread nD τ) (Pipeline.ucRefs τ sig) (V0 m c) ∗ rides m c)
abbrev Tₙ (c : Dev nD) : sProp 𝕄 := iprop(StableHlo.held (c : Thread nD τ) (Pipeline.ucRefs τ sig) (V2 m (outs m) c) ∗ semVal (barCell c) 0)

theorem T₀_intro (K : GSem nD τ sig → ℕ) (c : Dev nD) : iprop(records m K ∗ (share c ∗ bundle m c)) ⊢ T₀ m c := by
  have r : iprop((bigSep Finset.univ fun j : Fin 6 => (dutyTok ER (sendCell j c) 0 false : sProp 𝕄))
        ∗ (bigSep Finset.univ fun j : Fin 6 => dutyTok ER (recvCell j (peer j c)) 0 false)
        ∗ bigSep Finset.univ fun j : Fin 6 => cred (tallyAt (recvCell j c) () (amt j)))
      ⊢ bigSep Finset.univ fun j : Fin 6 => (rights c j : sProp 𝕄) := by
    unfold rights; rw [bigSep_sep', bigSep_sep']
  unfold records share bundle tokensOf T₀ rides kept barrierPart
  iintro ⟨⟨#HK, #HR⟩, ⟨Hat, Hop, ⟨HtN, HtF⟩, HtS, HtR⟩, Hh, ⟨H2, Hc⟩, HO, Hp⟩
  isplitl [Hh]; · iexact Hh
  isplitl [Hp]; · iexact Hp
  isplitr [HO]
  · isplitr; · iexists K; iexact HK
    isplitl [Hat H2 HtN HtF]
    · isplitl [Hat]; · iexact Hat
      isplitl [H2]; · iexact H2
      isplitl [HtN]; · iexact HtN
      isplitr; · iapply (reached_bar (F := F) (near c)); iexact HR
      isplitl [HtF]; · iexact HtF
      iapply (reached_bar (F := F) (far c)); iexact HR
    isplitr [Hop]
    · iapply r
      isplitl [HtS]; · iexact HtS
      isplitl [HtR] <;> iassumption
    iexact Hop
  iexact HO

theorem counters (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]

variable (ρ : Dev nD → PrngReg)

theorem init :
    iprop((bigSep Finset.univ fun c : Dev nD => iprop(unscopedBufs c (fun b => m ((c.tc : Thread nD τ).loc b)) ∗ unscopedSems0 c
          ∗ owes (c.tc : Thread nD τ) (due c) ∅ ∗ Pipeline.launchCred due c ∗ prngReg c (ρ c) ∗ ghost c)) ∗ levAts L lv)
      ⊢ (|={Set.univ}=> bigSep Finset.univ (T₀ m) : sProp 𝕄) := by
  have core (c : Dev nD) : iprop(unscopedBufs c (fun b => m ((c.tc : Thread nD τ).loc b)) ∗ unscopedSems0 c
        ∗ owes (c.tc : Thread nD τ) (due c) ∅ ∗ Pipeline.launchCred due c ∗ prngReg c (ρ c) ∗ ghost c)
      ⊢ (iprop(bundle m c ∗ (semVal (barCell c) 0 ∗ ghost c)) : sProp 𝕄) := by
    rw [show unscopedBufs c (fun b => m ((c.tc : Thread nD τ).loc b)) = StableHlo.held (c : Thread nD τ) (Pipeline.ucRefs τ sig) (V0 m c) from
      Pipeline.unscopedBufs_held (Ix := Unit) (Name := ℕ) (U := UU) (Lvl := ℕ) c (V0 m c), counters]
    unfold bundle anyReg owing
    iintro ⟨Hh, Hs, HO, Hcr, Hp, HG⟩
    ihave Hc := (credits (F := F) c) $$ Hcr
    isplitl [Hh Hc HO Hp]
    · isplitl [Hh]; · iexact Hh
      isplitl [Hc]; · iexact Hc
      isplitl [HO]; · iexists ∅; iexact HO
      iexists (ρ c); iexact Hp
    isplitl [Hs] <;> iassumption
  have hv : bigSep Finset.univ (fun c : Dev nD => (semVal (barCell c) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (BI.bigSep_map (s := Finset.univ) barEmb (Φ := fun g : GSem nD τ sig => (atPos ER g 0 ∅ 0 : sProp 𝕄)))
  have hop : bigSep ownCells (fun g => (openTok ER g : sProp 𝕄))
      ⊢ bigSep Finset.univ (fun c : Dev nD => bigSep Finset.univ fun k : Fin 12 => openTok ER (own c k)) :=
    Entails.of_eq ((BI.bigSep_map (s := Finset.univ) ownEmb (Φ := fun g : GSem nD τ sig => (openTok ER g : sProp 𝕄))).trans (bigSep_univ_prod _))
  have split : (bigSep Finset.univ fun c : Dev nD => iprop(bundle m c ∗ (semVal (barCell c) 0 ∗ ghost c)))
      ⊢ iprop((bigSep Finset.univ fun c : Dev nD => bundle m c) ∗ (bigSep Finset.univ fun c : Dev nD => (semVal (barCell c) 0 : sProp 𝕄)) ∗ bigSep Finset.univ (ghost (F := F))) := by
    rw [bigSep_sep', bigSep_sep']
  have join : iprop(((bigSep Finset.univ fun c : Dev nD => (atPos ER (barCell c) 0 ∅ 0 : sProp 𝕄))
          ∗ (bigSep Finset.univ fun c : Dev nD => bigSep Finset.univ fun k : Fin 12 => openTok ER (own c k)) ∗ bigSep Finset.univ fun c : Dev nD => tokensOf c)
        ∗ bigSep Finset.univ fun c : Dev nD => bundle m c)
      ⊢ bigSep Finset.univ fun c : Dev nD => iprop(share c ∗ bundle m c) := by
    unfold share; rw [bigSep_sep', bigSep_sep', bigSep_sep']
  iintro ⟨H, -⟩
  ihave H' := (show (bigSep Finset.univ fun c : Dev nD => iprop(unscopedBufs c (fun b => m ((c.tc : Thread nD τ).loc b)) ∗ unscopedSems0 c
          ∗ owes (c.tc : Thread nD τ) (due c) ∅ ∗ Pipeline.launchCred due c ∗ prngReg c (ρ c) ∗ ghost c))
      ⊢ (bigSep Finset.univ fun c : Dev nD => iprop(bundle m c ∗ (semVal (barCell c) 0 ∗ ghost c)) : sProp 𝕄) from bigSep_mono fun c _ => core c) $$ H
  ihave H2 := split $$ H'
  icases H2 with ⟨HB, Hv, HG⟩
  ihave Hu := (show bigSep Finset.univ (ghost (F := F)) ⊢ BI.own (ER (launchOf barCells ownCells tokens)) from
    Entails.of_eq (bigSep_atFirst (F := F) _)) $$ HG
  imod (Rounds.fund_launch ER (sched (sent (blocks m))) cells_disjoint (fun g _ h => h) tokens) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(share c ∗ bundle m c)) fun c _ => T₀_intro m K c)
  isplitr
  · unfold records known
    isplitr; · iexact Hinv
    iexact Hr
  iapply join
  isplitr [HB]
  · isplitl [Hat]; · iapply hat $$ Hat
    isplitl [Hopen]; · iapply hop $$ Hopen
    iapply (deal_tokens (F := F)) $$ Htok
  · iexact HB

/-! ## The run -/

theorem unscoped_bar : ∀ sm : SemLoc sig, sm.isScoped .tc = false → sm = .reg barrier0 := by decide

abbrev items (c : Dev nD) := Gen.segs m 𝒱₀ L lv (Ev m) () (pdats m) (reg0 m) c

/-- What is read off device `c`'s final memory. -/
def Ends (c : Dev nD) (s : MemSt nD τ sig (Elt F)) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_v15) = result m c)
  ∧ s.sem (barCell c) = 0

theorem read_end (c : Dev nD) (s' : Phys nD τ sig (Elt F)) : iprop(Tₙ m c ∗ SI s') ⊢ (|={Set.univ}=> iprop(⌜Ends m c s'.mem⌝ ∗ SI s') : sProp 𝕄) := by
  dsimp only [Tₙ]
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    have at' (r : Ref sig .tc) (hr : r.isScoped = false) := h (Proc.devRef .tc r)
      (Finset.mem_filter.mpr ⟨StableHlo.devRef_mem_tcRefs r, by intro h'; exact Bool.false_ne_true (hr.symm.trans h')⟩)
    exact ⟨⟨(at' main_arg0 (by decide)).trans (V2_main_arg0 m (outs m) c),
      (at' main_arg1 (by decide)).trans (V2_main_arg1 m (outs m) c),
      (at' main_arg2 (by decide)).trans (V2_main_arg2 m (outs m) c),
      (at' main_arg3 (by decide)).trans (V2_main_arg3 m (outs m) c),
      (at' main_arg4 (by decide)).trans (V2_main_arg4 m (outs m) c),
      (at' main_v15 (by decide)).trans (V2_result m c)⟩, by simpa using hb⟩
  iexact HSI

set_option backward.isDefEq.respectTransparency.types false in
/-- From any memory with zero counters, every weakly fair execution of @main on the four devices ends, with every
    argument as launched, every device's result at the sum over the devices, and every counter at zero. -/
theorem run_main : θ_run defs (onTc (τ := τ) (main (F := F))) ⟨m, fun _ => 0, ρ⟩
    (fun r => (∀ c : Dev nD, Ends m c r.2) ∧ r.2.sem = fun _ => 0) :=
  Pipeline.θ_run_regions_kit_dev_sems (pcfgs (F := F)) adm (pdats m) () cellOf_inj EP defs₀ 𝒱₀ L lv m ρ main (items m)
    (fun c Q => by
      rewrite [main_chain c, Seg.run_eq_chain,
        show (items m c).map Seg.prog = [
          StableHlo.seq (hostOps0 c),
          Prog.lift (.customCall (Pipeline.entry 0) ()) ] from rfl]
      dsimp (config := { failIfUnchanged := false }) only
      exact .rfl)
    (fun c => by simp only [items, Gen.segs, Seg.pipes_host, Seg.pipes_region, Seg.pipes_nil]; decide)
    due L_of_ne ghost u₀
    (by
      unfold u₀ ghost
      iintro Hu
      ihave H := (ownU_pair _ _) $$ Hu
      icases H with ⟨HP, HX⟩
      imodintro
      isplitl [HP]; · iexact HP
      rw [bigSep_atFirst]; iexact HX)
    (T₀ := T₀ m) (Tₙ := Tₙ m)
    (hch := fun c => ⟨.rfl, reg0_pre m c, reg0_post m c⟩)
    (hinit := init m ρ)
    (QY := Ends m)
    (hfin := read_end m)
    (hQ := fun s h hs => ⟨h, sem_eq_zero hs fun c sm hsm => by
      obtain rfl := unscoped_bar sm hsm
      exact (h c).2⟩)

end Cert.KernelIdeal.Exchange
-- ==== Proof.Attend.lean ====
/-
  THE ATTENTION OF ONE QUERY OVER 128 KEYS, in the extended reals, in the two forms that meet here: the quotient of the
  weighted sum by the sum of the weights, and the weighted sum of the values under the weights already divided, the
  largest score subtracted before the exponential. For finite scores, some of them kept, the two are equal.
-/
module

public import Idealize.ShloMosaic.Lib.ValueIdx

@[expose] public section

noncomputable section

namespace Cert.Attention

open Idealize.ShloMosaic

/-- Which keys a row keeps, in blocks of 64: its own block, the first, and those whose number with its own is a multiple
    of three. -/
def isKept (i j : Fin 128) : BitVec 1 :=
  if i.val / 64 = j.val / 64 ∨ j.val / 64 = 0 ∨ (i.val / 64 + j.val / 64) % 3 = 0 then 1#1 else 0#1

/-- Every row keeps the first key. -/
theorem isKept_first (i : Fin 128) : isKept i 0 = 1#1 := if_pos (.inr (.inl rfl))

/-- What a query weighs one key with, up to the common factor: nothing if the key is masked. -/
def weight (keep : BitVec 1) (s : EReal) : EReal := Scalar.select keep (Ideal.exp s) 0

/-- The quotient form. -/
def attend {n : ℕ} (keep : Fin n → BitVec 1) (s v : Fin n → EReal) : EReal :=
  Ideal.div (∑ j, weight (keep j) (s j) * v j) (∑ j, weight (keep j) (s j))

/-- The same with the masked keys left out of the products. -/
theorem attend_spread {n : ℕ} (keep : Fin n → BitVec 1) (s v : Fin n → EReal) :
    attend keep s v = Ideal.div (∑ j, Scalar.select (keep j) (Ideal.exp (s j) * v j) 0) (∑ j, Scalar.select (keep j) (Ideal.exp (s j)) 0) := by
  unfold attend weight
  congr 1
  refine Finset.sum_congr rfl fun j _ => ?_
  unfold Scalar.select
  split
  · rfl
  · exact zero_mul _

/-- A query's score against a key, scaled by one over the square root of 64. -/
def score (q k : Fin 64 → EReal) : EReal := (∑ d, q d * k d) * Ideal.ofBits .f32 0x3E000000#32

/-- A masked score is −∞. -/
def masked (keep : BitVec 1) (s : EReal) : EReal := Scalar.select keep s ⊥

/-- The largest of the masked scores. -/
def top {n : ℕ} (keep : Fin n → BitVec 1) (s : Fin n → EReal) : EReal := Finset.univ.fold max ⊥ fun j => masked (keep j) (s j)

/-- The form with the largest score subtracted and the weights divided first. -/
def softmax {n : ℕ} (keep : Fin n → BitVec 1) (s v : Fin n → EReal) : EReal :=
  ∑ j, v j * Ideal.div (Ideal.exp (masked (keep j) (s j) - top keep s)) (∑ i, Ideal.exp (masked (keep i) (s i) - top keep s))

/-- A finite factor that is not negative goes into a sum. -/
theorem sum_mul_real {ι : Type*} (t : Finset ι) (f : ι → EReal) (a : ℝ) (ha : 0 ≤ a) :
    (∑ i ∈ t, f i) * (a : EReal) = ∑ i ∈ t, f i * (a : EReal) := by
  classical
  induction t using Finset.induction_on with
  | empty => simp
  | insert i t hi ih =>
    rw [Finset.sum_insert hi, Finset.sum_insert hi, ← ih]
    exact EReal.right_distrib_of_nonneg_of_ne_top (EReal.coe_nonneg.2 ha) (EReal.coe_ne_top a) _ _

theorem sum_coe {ι : Type*} (t : Finset ι) (f : ι → ℝ) : (∑ i ∈ t, (f i : EReal)) = ((∑ i ∈ t, f i : ℝ) : EReal) := by
  classical
  induction t using Finset.induction_on with
  | empty => simp
  | insert i t hi ih => rw [Finset.sum_insert hi, Finset.sum_insert hi, ih, EReal.coe_add]

/-- The largest masked score is a number: at least the kept one, and below +∞ as all are. -/
theorem top_real {n : ℕ} (keep : Fin n → BitVec 1) (r : Fin n → ℝ) (j₀ : Fin n) (h₀ : keep j₀ = 1#1) :
    ∃ μ : ℝ, top keep (fun j => (r j : EReal)) = μ := by
  have hlt : top keep (fun j => (r j : EReal)) < ⊤ := by
    unfold top
    rw [Finset.fold_max_lt]
    refine ⟨bot_lt_top, fun j _ => ?_⟩
    unfold masked Scalar.select
    split
    · exact EReal.coe_lt_top _
    · exact bot_lt_top
  have hgt : ⊥ < top keep (fun j => (r j : EReal)) := by
    unfold top
    rw [Finset.lt_fold_max]
    refine Or.inr ⟨j₀, Finset.mem_univ _, ?_⟩
    unfold masked
    rw [h₀]
    exact EReal.bot_lt_coe _
  exact ⟨_, (EReal.coe_toReal hlt.ne hgt.ne').symm⟩

/-- For finite scores, one of them kept, the two forms are one value, whatever the values attended to. -/
theorem softmax_eq_attend {n : ℕ} (keep : Fin n → BitVec 1) (s v : Fin n → EReal) (hs : ∀ j, ∃ r : ℝ, s j = r)
    (hk : ∃ j, keep j = 1#1) : softmax keep s v = attend keep s v := by
  choose r hr using hs
  obtain rfl : s = fun j => (r j : EReal) := funext hr
  obtain ⟨j₀, h₀⟩ := hk
  obtain ⟨μ, hμ⟩ := top_real keep r j₀ h₀
  let e : Fin n → ℝ := fun j => if keep j = 1#1 then Real.exp (r j) else 0
  have e_nonneg : ∀ j, 0 ≤ e j := fun j => by
    dsimp only [e]; split
    · exact (Real.exp_pos _).le
    · exact le_rfl
  have e_pos : 0 < ∑ j, e j := by
    refine Finset.sum_pos' (fun j _ => e_nonneg j) ⟨j₀, Finset.mem_univ _, ?_⟩
    dsimp only [e]; rw [if_pos h₀]; exact Real.exp_pos _
  have hw : ∀ j, weight (keep j) (r j : EReal) = (e j : EReal) := fun j => by
    by_cases h : keep j = 1#1
    · simp only [weight, e, h, if_true]; rfl
    · simp only [weight, e, h, if_false, Scalar.select, EReal.coe_zero]
      simp [h]
  have hS : ∀ j, Ideal.exp (masked (keep j) (r j : EReal) - top keep fun j => (r j : EReal)) = ((e j * Real.exp (-μ) : ℝ) : EReal) := fun j => by
    rw [hμ]
    by_cases h : keep j = 1#1
    · have hm : masked (keep j) (r j : EReal) = (r j : EReal) := by rw [masked, h]; rfl
      have he : e j = Real.exp (r j) := if_pos h
      rw [hm, he, ← EReal.coe_sub, Ideal.exp_coe, sub_eq_add_neg, Real.exp_add]
    · have hm : masked (keep j) (r j : EReal) = ⊥ := by rw [masked, ValueIdx.eq_zero_of_ne_one h]; rfl
      have he : e j = 0 := if_neg h
      rw [hm, he, EReal.bot_sub, Ideal.exp_bot, zero_mul, EReal.coe_zero]
  have hz : (∑ i, Ideal.exp (masked (keep i) (r i : EReal) - top keep fun j => (r j : EReal))) = (((∑ j, e j) * Real.exp (-μ) : ℝ) : EReal) := by
    rw [Finset.sum_congr rfl fun j _ => hS j, sum_coe, Finset.sum_mul]
  have hE : (∑ j, weight (keep j) (r j : EReal)) = ((∑ j, e j : ℝ) : EReal) := by
    rw [Finset.sum_congr rfl fun j _ => hw j, sum_coe]
  have ne0 : (((∑ j, e j : ℝ)) : EReal) ≠ 0 := by simpa using e_pos.ne'
  have ne1 : ((((∑ j, e j) * Real.exp (-μ) : ℝ)) : EReal) ≠ 0 := by
    rw [Ne, EReal.coe_eq_zero]; exact (mul_pos e_pos (Real.exp_pos _)).ne'
  unfold softmax attend
  rw [hz, hE, Ideal.div, if_neg ne0, ← EReal.coe_inv, sum_mul_real _ _ _ (inv_nonneg.2 e_pos.le)]
  refine Finset.sum_congr rfl fun j _ => ?_
  rw [hS, hw, Ideal.div, if_neg ne1, ← EReal.coe_inv, ← EReal.coe_mul, mul_comm (e j : EReal) (v j), mul_assoc (v j) (e j : EReal), ← EReal.coe_mul]
  congr 2
  have := (Real.exp_pos (-μ)).ne'
  field_simp

end Cert.Attention

end
-- ==== Proof.Head.lean ====
/-
  ONE HEAD OF ONE CHUNK, read at an index: every head of every chunk is `headAt`, the quotient form of the attention of
  one query row over the 128 keys, with the row of the mask, the row of the projected queries and the head's columns
  that this chunk and this head take.
-/
module

public import proofs.«01_k».proof.Proof.Values
public import proofs.«01_k».proof.Proof.Attend
public import Idealize.ShloMosaic.Lib.Pointwise

@[expose] public section

noncomputable section

namespace Cert.KernelIdeal.Exchange

open Cert.KernelIdeal Cert.KernelIdeal.Gen
open Idealize.ShloMosaic Idealize.ShloMosaic.TcCoe
open Cert.Attention

section Heads
variable (m : IVec S128x128 1) (q : FVec Ideal S256x256 .f32) (k v : Vec Ideal S1x128x1x64 .bf16)

/-- Row `qr` of the queries, its columns `col`, against one head's keys and values under row `mr` of the mask. -/
def headAt (mr : Fin 128) (qr : Fin 256) (col : Fin 64 → Fin 256) (d : Fin 64) : EReal :=
  attend (fun j => m (ix2 mr j)) (fun j => score (fun x => q (ix2 qr (col x))) (fun x => k (ix4 0 j 0 x))) (fun j => v (ix4 0 j 0 d))

/-- The four heads side by side. -/
def beside (f : Fin 4 → Fin 64 → EReal) (x : Fin 256) : EReal :=
  if h : x.val < 64 then f 0 ⟨x.val, h⟩ else
    if h : x.val - 64 < 64 then f 1 ⟨x.val - 64, h⟩ else
      if h : x.val - 64 - 64 < 64 then f 2 ⟨x.val - 64 - 64, h⟩ else f 3 ⟨x.val - 64 - 64 - 64, by omega⟩

/-! ## The heads of chunk 0, which takes all 128 rows of batch 0 -/

theorem chunk0_head0 (m₁ m₃ m₄ : IVec S128x128 1) (w₁ : BitVec 32) (m₂ : IVec S128x128 32) (w₂ : BitVec 1) (hm : k0_pay11 m₁ w₁ m₂ m₃ m₄ w₂ = m) (i : Fin 128) (d : Fin 64) :
    k0_pay13 (F := Ideal) q m₁ w₁ m₂ m₃ m₄ w₂ k v (ix2 i d) = headAt m q k v ⟨i.val, by omega⟩ ⟨i.val, by omega⟩ (fun x => ⟨x.val, by omega⟩) d := by
  unfold headAt score
  rw [attend_spread]
  unfold k0_pay13
  rw [hm]
  pointwise

theorem chunk0_head1 (i : Fin 128) (d : Fin 64) :
    k0_pay16 (F := Ideal) m (k0_pay14 q) (k0_pay15 k) v (ix2 i d) = headAt m q k v ⟨i.val, by omega⟩ ⟨i.val, by omega⟩ (fun x => ⟨64 + x.val, by omega⟩) d := by
  unfold headAt score
  rw [attend_spread]
  unfold k0_pay16 k0_pay14 k0_pay15
  pointwise

theorem chunk0_head2 (i : Fin 128) (d : Fin 64) :
    k0_pay17 (F := Ideal) q m k v (ix2 i d) = headAt m q k v ⟨i.val, by omega⟩ ⟨i.val, by omega⟩ (fun x => ⟨128 + x.val, by omega⟩) d := by
  unfold headAt score
  rw [attend_spread]
  unfold k0_pay17
  pointwise

theorem chunk0_head3 (i : Fin 128) (d : Fin 64) :
    k0_pay16 (F := Ideal) m (k0_pay18 q) (k0_pay19 k) v (ix2 i d) = headAt m q k v ⟨i.val, by omega⟩ ⟨i.val, by omega⟩ (fun x => ⟨192 + x.val, by omega⟩) d := by
  unfold headAt score
  rw [attend_spread]
  unfold k0_pay16 k0_pay18 k0_pay19
  pointwise

/-! ## The heads of chunk 1, which takes the first 64 rows of batch 1 -/

theorem chunk1_head0 (i : Fin 64) (d : Fin 64) :
    k0_pay23 (F := Ideal) q m k v (ix2 i d) = headAt m q k v ⟨i.val, by omega⟩ ⟨128 + i.val, by omega⟩ (fun x => ⟨x.val, by omega⟩) d := by
  unfold headAt score
  rw [attend_spread]
  unfold k0_pay23
  pointwise

theorem chunk1_head1 (i : Fin 64) (d : Fin 64) :
    k0_pay27 (F := Ideal) m (k0_pay24 q) (k0_pay25 v) (k0_pay26 k) (constant S64x128 .f32 0x00000000#32) (ix2 i d) = headAt m q k v ⟨i.val, by omega⟩ ⟨128 + i.val, by omega⟩ (fun x => ⟨64 + x.val, by omega⟩) d := by
  unfold headAt score
  rw [attend_spread]
  unfold k0_pay27 k0_pay24 k0_pay25 k0_pay26
  pointwise

theorem chunk1_head2 (i : Fin 64) (d : Fin 64) :
    k0_pay28 (F := Ideal) q m k v (ix2 i d) = headAt m q k v ⟨i.val, by omega⟩ ⟨128 + i.val, by omega⟩ (fun x => ⟨128 + x.val, by omega⟩) d := by
  unfold headAt score
  rw [attend_spread]
  unfold k0_pay28
  pointwise

theorem chunk1_head3 (i : Fin 64) (d : Fin 64) :
    k0_pay27 (F := Ideal) m (k0_pay29 q) (k0_pay25 v) (k0_pay26 k) (constant S64x128 .f32 0x00000000#32) (ix2 i d) = headAt m q k v ⟨i.val, by omega⟩ ⟨128 + i.val, by omega⟩ (fun x => ⟨192 + x.val, by omega⟩) d := by
  unfold headAt score
  rw [attend_spread]
  unfold k0_pay27 k0_pay29 k0_pay25 k0_pay26
  pointwise

/-! ## The heads of chunk 2, which takes the last 64 rows of batch 1 -/

theorem chunk2_head0 (i : Fin 64) (d : Fin 64) :
    k0_pay34 (F := Ideal) q m k v (ix2 i d) = headAt m q k v ⟨64 + i.val, by omega⟩ ⟨192 + i.val, by omega⟩ (fun x => ⟨x.val, by omega⟩) d := by
  unfold headAt score
  rw [attend_spread]
  unfold k0_pay34
  pointwise

theorem chunk2_head1 (i : Fin 64) (d : Fin 64) :
    k0_pay38 (F := Ideal) m (k0_pay35 v) (k0_pay36 q k) k0_pay37 (ix2 i d) = headAt m q k v ⟨64 + i.val, by omega⟩ ⟨192 + i.val, by omega⟩ (fun x => ⟨64 + x.val, by omega⟩) d := by
  unfold headAt score
  rw [attend_spread]
  unfold k0_pay38 k0_pay35 k0_pay36 k0_pay37
  pointwise

theorem chunk2_head2 (i : Fin 64) (d : Fin 64) :
    k0_pay39 (F := Ideal) q m k v (ix2 i d) = headAt m q k v ⟨64 + i.val, by omega⟩ ⟨192 + i.val, by omega⟩ (fun x => ⟨128 + x.val, by omega⟩) d := by
  unfold headAt score
  rw [attend_spread]
  unfold k0_pay39
  pointwise

theorem chunk2_head3 (i : Fin 64) (d : Fin 64) :
    k0_pay38 (F := Ideal) m (k0_pay35 v)
      (matmul dot_S64x64_S64x128_S64x128_1_0_0_1_n_n none (k0_pay40 q) (transpose S64x128 [1, 0] (k0_pay41 k) transposes_S128x64_p1_0_S64x128)
        (constant S64x128 .f32 0x00000000#32)) k0_pay37 (ix2 i d) = headAt m q k v ⟨64 + i.val, by omega⟩ ⟨192 + i.val, by omega⟩ (fun x => ⟨192 + x.val, by omega⟩) d := by
  unfold headAt score
  rw [attend_spread]
  unfold k0_pay38 k0_pay35 k0_pay40 k0_pay41 k0_pay37
  pointwise

end Heads

/-! ## The four heads joined, and the output projection -/

section Join
variable (wo : FVec Ideal S256x512 .bf16)

def join128 (c₀ c₁ c₂ c₃ : FVec Ideal S128x64 .f32) : FVec Ideal S128x512 .f32 :=
  matmul dot_S128x256_S256x512_S128x512_1_0_0_1_n_n none
    (truncf .bf16 (concatenate S128x256 1 [⟨S128x64, c₀⟩, ⟨S128x64, c₁⟩, ⟨S128x64, c₂⟩, ⟨S128x64, c₃⟩]
      concatenates_S128x64_S128x64_S128x64_S128x64_S128x256_d1) bitsLt_bf16_f32) wo (constant S128x512 .f32 0x00000000#32)
def join64 (c₀ c₁ c₂ c₃ : FVec Ideal S64x64 .f32) : FVec Ideal S64x512 .f32 :=
  matmul dot_S64x256_S256x512_S64x512_1_0_0_1_n_n none
    (truncf .bf16 (concatenate S64x256 1 [⟨S64x64, c₀⟩, ⟨S64x64, c₁⟩, ⟨S64x64, c₂⟩, ⟨S64x64, c₃⟩]
      concatenates_S64x64_S64x64_S64x64_S64x64_S64x256_d1) bitsLt_bf16_f32) wo (constant S64x512 .f32 0x00000000#32)

theorem join128_at (c₀ c₁ c₂ c₃ : FVec Ideal S128x64 .f32) (f : Fin 4 → Fin 64 → EReal) (i : Fin 128) (n : Fin 512)
    (h₀ : ∀ d, c₀ (ix2 i d) = f 0 d) (h₁ : ∀ d, c₁ (ix2 i d) = f 1 d) (h₂ : ∀ d, c₂ (ix2 i d) = f 2 d) (h₃ : ∀ d, c₃ (ix2 i d) = f 3 d) :
    join128 wo c₀ c₁ c₂ c₃ (ix2 i n) = ∑ x : Fin 256, beside f x * wo (ix2 x n) := by
  unfold join128
  pointwise
  simp only [h₀, h₁, h₂, h₃]
  rfl
theorem join64_at (c₀ c₁ c₂ c₃ : FVec Ideal S64x64 .f32) (f : Fin 4 → Fin 64 → EReal) (i : Fin 64) (n : Fin 512)
    (h₀ : ∀ d, c₀ (ix2 i d) = f 0 d) (h₁ : ∀ d, c₁ (ix2 i d) = f 1 d) (h₂ : ∀ d, c₂ (ix2 i d) = f 2 d) (h₃ : ∀ d, c₃ (ix2 i d) = f 3 d) :
    join64 wo c₀ c₁ c₂ c₃ (ix2 i n) = ∑ x : Fin 256, beside f x * wo (ix2 x n) := by
  unfold join64
  pointwise
  simp only [h₀, h₁, h₂, h₃]
  rfl

variable (m : IVec S128x128 1) (q : FVec Ideal S256x256 .f32) (k v : Vec Ideal S1x128x1x64 .bf16)

theorem chunk0_join (c₀ c₁ c₂ : FVec Ideal S128x64 .f32) :
    k0_pay20 (F := Ideal) m wo c₀ c₁ c₂ (k0_pay18 q) (k0_pay19 k) v = join128 wo c₀ c₁ c₂ (k0_pay16 m (k0_pay18 q) (k0_pay19 k) v) := rfl
theorem chunk1_join (c₀ c₁ c₂ : FVec Ideal S64x64 .f32) :
    k0_pay31 (F := Ideal) m wo c₀ c₁ c₂ (k0_pay29 q) (k0_pay30 k) v
      = join64 wo c₀ c₁ c₂ (k0_pay27 m (k0_pay29 q) (k0_pay25 v) (k0_pay26 k) (constant S64x128 .f32 0x00000000#32)) := rfl
theorem chunk2_join (c₀ c₁ c₂ : FVec Ideal S64x64 .f32) :
    k0_pay42 (F := Ideal) m wo c₀ c₁ c₂ (k0_pay40 q) (k0_pay41 k) v
      = join64 wo c₀ c₁ c₂ (k0_pay38 m (k0_pay35 v)
          (matmul dot_S64x64_S64x128_S64x128_1_0_0_1_n_n none (k0_pay40 q) (transpose S64x128 [1, 0] (k0_pay41 k) transposes_S128x64_p1_0_S64x128)
            (constant S64x128 .f32 0x00000000#32)) k0_pay37) := rfl

end Join

end Cert.KernelIdeal.Exchange

end
-- ==== Proof.Partial.lean ====
/-
  A DEVICE'S PARTIAL SUM, read at an index: the attention of its four heads through its block of the output projection.
-/
module

public import proofs.«01_k».proof.Proof.Head

@[expose] public section

noncomputable section

namespace Cert.KernelIdeal.Exchange

open Cert.KernelIdeal Cert.KernelIdeal.Gen
open Idealize.ShloMosaic Idealize.ShloMosaic.TcCoe
open Cert.Attention

/-! ## A sum over 256 columns by head and column of the head -/

/-- Column `d` of head `h` among a device's 256. -/
def column (h : Fin 4) (d : Fin 64) : Fin 256 := ⟨64 * h.val + d.val, by omega⟩

theorem sum_columns (f : Fin 256 → EReal) : (∑ x, f x) = ∑ h : Fin 4, ∑ d : Fin 64, f (column h d) := by
  rw [← Fintype.sum_prod_type', ← (finProdFinEquiv (m := 4) (n := 64)).sum_comp]
  refine Finset.sum_congr rfl fun p _ => congrArg f (Fin.ext ?_)
  show p.2.val + 64 * p.1.val = 64 * p.1.val + p.2.val
  omega

theorem beside_column (f : Fin 4 → Fin 64 → EReal) (h : Fin 4) (d : Fin 64) : beside f (column h d) = f h d := by
  unfold beside column
  have hd := d.isLt
  match h with
  | ⟨0, _⟩ => rw [dif_pos (by simp)]; exact congrArg (f 0) (Fin.ext (by simp))
  | ⟨1, _⟩ => rw [dif_neg (by simp), dif_pos (by simp)]; exact congrArg (f 1) (Fin.ext (by simp))
  | ⟨2, _⟩ => rw [dif_neg (by simp; omega), dif_neg (by simp; omega), dif_pos (by simp; omega)]; exact congrArg (f 2) (Fin.ext (by simp; omega))
  | ⟨3, _⟩ => rw [dif_neg (by simp; omega), dif_neg (by simp; omega), dif_neg (by simp; omega)]; exact congrArg (f 3) (Fin.ext (by simp; omega))

/-! ## What the loads read -/

section Device
variable (B : Blocks Ideal)

theorem kHead_at (b : Fin 2) (h : Fin 4) (j : Fin 128) (d : Fin 64) : kHead B b h (ix4 0 j 0 d) = B.k (ix4 b j h d) := by
  refine congrArg B.k (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * d.val = d.val; omega

theorem vHead_at (b : Fin 2) (h : Fin 4) (j : Fin 128) (d : Fin 64) : vHead B b h (ix4 0 j 0 d) = B.v (ix4 b j h d) := by
  refine congrArg B.v (funext fun a => Fin.ext ?_)
  match a with
  | ⟨0, _⟩ => show b.val + 1 * 0 = b.val; omega
  | ⟨1, _⟩ => show 0 + 1 * j.val = j.val; omega
  | ⟨2, _⟩ => show h.val + 1 * 0 = h.val; omega
  | ⟨3, _⟩ => show 0 + 1 * d.val = d.val; omega

theorem x_read : (xM.access (Rect.unit (s := S2x128x512) ![0, 0, 0] S2x128x512.size inb_S2x128x512_S2x128x512_0_0_0)).read (Elt Ideal) B.x = B.x := by
  refine funext fun i => congrArg B.x (funext fun a => Fin.ext ?_)
  match a with
  | ⟨0, _⟩ => show 0 + 1 * (i 0).val = (i 0).val; omega
  | ⟨1, _⟩ => show 0 + 1 * (i 1).val = (i 1).val; omega
  | ⟨2, _⟩ => show 0 + 1 * (i 2).val = (i 2).val; omega

theorem wq_read : (wqM.access (Rect.unit (s := S512x256) ![0, 0] S512x256.size inb_S512x256_S512x256_0_0)).read (Elt Ideal) B.wq = B.wq := by
  refine funext fun i => congrArg B.wq (funext fun a => Fin.ext ?_)
  match a with
  | ⟨0, _⟩ => show 0 + 1 * (i 0).val = (i 0).val; omega
  | ⟨1, _⟩ => show 0 + 1 * (i 1).val = (i 1).val; omega

theorem wo_read : (woM.access (Rect.unit (s := S256x512) ![0, 0] S256x512.size inb_S256x512_S256x512_0_0)).read (Elt Ideal) B.wo = B.wo := by
  refine funext fun i => congrArg B.wo (funext fun a => Fin.ext ?_)
  match a with
  | ⟨0, _⟩ => show 0 + 1 * (i 0).val = (i 0).val; omega
  | ⟨1, _⟩ => show 0 + 1 * (i 1).val = (i 1).val; omega

theorem woAll_at (x : Fin 256) (n : Fin 512) : woAll B (ix2 x n) = B.wo (ix2 x n) := by
  unfold woAll
  rw [wo_read]
  unfold k0_pay12
  pointwise

/-- Component `d` of head `h`'s query for row `r` of batch `b`. -/
def query (b : Fin 2) (r : Fin 128) (h : Fin 4) (d : Fin 64) : EReal := ∑ e : Fin 512, B.x (ix3 b r e) * B.wq (ix2 e (column h d))

theorem qAll_at (b : Fin 2) (r : Fin 128) (h : Fin 4) (d : Fin 64) (i j : Fin 256) (hi : i.val = 128 * b.val + r.val) (hj : j.val = 64 * h.val + d.val) :
    qAll B (ix2 i j) = query B b r h d := by
  unfold qAll
  rw [x_read, wq_read]
  unfold k0_pay1
  pointwise
  obtain rfl : j = column h d := Fin.ext hj
  refine Finset.sum_congr rfl fun e _ => ?_
  congr 3
  · exact Fin.ext (by show i.val / 128 = b.val; omega)
  · exact Fin.ext (by show i.val % 128 = r.val; omega)

/-! ## The attention of one row under one head, and the partial sum -/

/-- Component `d` of what row `r` of batch `b` gets from head `h`. -/
def context (b : Fin 2) (r : Fin 128) (h : Fin 4) (d : Fin 64) : EReal :=
  attend (fun j => mask (ix2 r j)) (fun j => score (query B b r h) (fun x => B.k (ix4 b j h x))) (fun j => B.v (ix4 b j h d))

theorem headAt_eq (b : Fin 2) (h : Fin 4) (r : Fin 128) (qr : Fin 256) (col : Fin 64 → Fin 256) (d : Fin 64)
    (hq : qr.val = 128 * b.val + r.val) (hc : ∀ x, (col x).val = 64 * h.val + x.val) :
    headAt mask (qAll B) (kHead B b h) (vHead B b h) r qr col d = context B b r h d := by
  unfold headAt context
  simp only [kHead_at, vHead_at, fun x => qAll_at B b r h x qr (col x) hq (hc x)]

/-- What the device adds at row `r` of batch `b`, column `n`. -/
def addend (b : Fin 2) (r : Fin 128) (n : Fin 512) : EReal :=
  ∑ h : Fin 4, ∑ d : Fin 64, context B b r h d * B.wo (ix2 (column h d) n)

theorem sum_beside (b : Fin 2) (r : Fin 128) (n : Fin 512) :
    (∑ x : Fin 256, beside (context B b r) x * woAll B (ix2 x n)) = addend B b r n := by
  rw [sum_columns]
  simp only [beside_column, woAll_at]
  rfl

theorem chunk0_at (i : Fin 128) (n : Fin 512) :
    k0_pay20 (F := Ideal) mask (woAll B) (k0_pay13 (qAll B) m69 w72 m74 m76 m78 w79 (kHead B 0 0) (vHead B 0 0))
      (k0_pay16 mask (k0_pay14 (qAll B)) (k0_pay15 (kHead B 0 1)) (vHead B 0 1)) (k0_pay17 (qAll B) mask (kHead B 0 2) (vHead B 0 2))
      (k0_pay18 (qAll B)) (k0_pay19 (kHead B 0 3)) (vHead B 0 3) (ix2 i n) = addend B 0 i n := by
  rw [chunk0_join, ← sum_beside]
  refine join128_at _ _ _ _ _ _ i n (fun d => ?_) (fun d => ?_) (fun d => ?_) (fun d => ?_)
  · rw [chunk0_head0 mask (qAll B) (kHead B 0 0) (vHead B 0 0) m69 m76 m78 w72 m74 w79 rfl]; exact headAt_eq B 0 0 i _ _ d (by simp) (fun x => by simp)
  · rw [chunk0_head1]; exact headAt_eq B 0 1 i _ _ d (by simp) (fun x => by simp)
  · rw [chunk0_head2]; exact headAt_eq B 0 2 i _ _ d (by simp) (fun x => by simp)
  · rw [chunk0_head3]; exact headAt_eq B 0 3 i _ _ d (by simp) (fun x => by simp)

theorem chunk1_at (i : Fin 64) (n : Fin 512) :
    k0_pay31 (F := Ideal) mask (woAll B) (k0_pay23 (qAll B) mask (kHead B 1 0) (vHead B 1 0))
      (k0_pay27 mask (k0_pay24 (qAll B)) (k0_pay25 (vHead B 1 1)) (k0_pay26 (kHead B 1 1)) (constant S64x128 .f32 0x00000000#32))
      (k0_pay28 (qAll B) mask (kHead B 1 2) (vHead B 1 2)) (k0_pay29 (qAll B)) (k0_pay30 (kHead B 1 3)) (vHead B 1 3) (ix2 i n)
      = addend B 1 ⟨i.val, by omega⟩ n := by
  rw [chunk1_join, ← sum_beside]
  refine join64_at _ _ _ _ _ _ i n (fun d => ?_) (fun d => ?_) (fun d => ?_) (fun d => ?_)
  · rw [chunk1_head0]; exact headAt_eq B 1 0 _ _ _ d (by simp) (fun x => by simp)
  · rw [chunk1_head1]; exact headAt_eq B 1 1 _ _ _ d (by simp) (fun x => by simp)
  · rw [chunk1_head2]; exact headAt_eq B 1 2 _ _ _ d (by simp) (fun x => by simp)
  · rw [chunk1_head3]; exact headAt_eq B 1 3 _ _ _ d (by simp) (fun x => by simp)

theorem chunk2_at (i : Fin 64) (n : Fin 512) :
    k0_pay42 (F := Ideal) mask (woAll B) (k0_pay34 (qAll B) mask (kHead B 1 0) (vHead B 1 0))
      (k0_pay38 mask (k0_pay35 (vHead B 1 1)) (k0_pay36 (qAll B) (kHead B 1 1)) (k0_pay37 (F := Ideal)))
      (k0_pay39 (qAll B) mask (kHead B 1 2) (vHead B 1 2)) (k0_pay40 (qAll B)) (k0_pay41 (kHead B 1 3)) (vHead B 1 3) (ix2 i n)
      = addend B 1 ⟨64 + i.val, by omega⟩ n := by
  rw [chunk2_join, ← sum_beside]
  refine join64_at _ _ _ _ _ _ i n (fun d => ?_) (fun d => ?_) (fun d => ?_) (fun d => ?_)
  · rw [chunk2_head0]; exact headAt_eq B 1 0 _ _ _ d (by simp; omega) (fun x => by simp)
  · rw [chunk2_head1]; exact headAt_eq B 1 1 _ _ _ d (by simp; omega) (fun x => by simp)
  · rw [chunk2_head2]; exact headAt_eq B 1 2 _ _ _ d (by simp; omega) (fun x => by simp)
  · rw [chunk2_head3]; exact headAt_eq B 1 3 _ _ _ d (by simp; omega) (fun x => by simp)

end Device

end Cert.KernelIdeal.Exchange

end
-- ==== Proof.Total.lean ====
/-
  THE RESULT, read at an index: the sum over the four devices of what each adds.
-/
module

public import proofs.«01_k».proof.Proof.Partial
public import proofs.«01_k».proof.Proof.Region

@[expose] public section

noncomputable section

namespace Cert.KernelIdeal.Exchange

open Cert.KernelIdeal Cert.KernelIdeal.Gen
open Idealize.ShloMosaic Idealize.ShloMosaic.TcCoe

/-! ## The three chunks of the partial sum, as stored and as sent -/

section Device
variable (B : Blocks Ideal)

theorem part0_at (u : Fin 1) (i : Fin 128) (n : Fin 512) : (part0 B : S1x128x512.Idx → EReal) (ix3 u i n) = addend B 0 i n := by
  rw [← chunk0_at]
  unfold part0 k0_pay21
  pointwise
theorem send0_at (u w : Fin 1) (i : Fin 128) (n : Fin 512) : (send0 B : S1x1x128x512.Idx → EReal) (ix4 u w i n) = addend B 0 i n := by
  rw [← chunk0_at]
  unfold send0 k0_pay22
  pointwise
theorem part1_at (u : Fin 1) (i : Fin 64) (n : Fin 512) : (part1 B : S1x64x512.Idx → EReal) (ix3 u i n) = addend B 1 ⟨i.val, by omega⟩ n := by
  rw [← chunk1_at]
  unfold part1 k0_pay32
  pointwise
theorem send1_at (u w : Fin 1) (i : Fin 64) (n : Fin 512) : (send1 B : S1x1x64x512.Idx → EReal) (ix4 u w i n) = addend B 1 ⟨i.val, by omega⟩ n := by
  rw [← chunk1_at]
  unfold send1 k0_pay33
  pointwise
theorem part2_at (u : Fin 1) (i : Fin 64) (n : Fin 512) : (part2 B : S1x64x512.Idx → EReal) (ix3 u i n) = addend B 1 ⟨64 + i.val, by omega⟩ n := by
  rw [← chunk2_at]
  unfold part2 k0_pay43
  pointwise
theorem send2_at (u w : Fin 1) (i : Fin 64) (n : Fin 512) : (send2 B : S1x1x64x512.Idx → EReal) (ix4 u w i n) = addend B 1 ⟨64 + i.val, by omega⟩ n := by
  rw [← chunk2_at]
  unfold send2 k0_pay44
  pointwise

end Device

/-! ## The sums of the two exchanges -/

section Sums

theorem add128_at (x : Vec Ideal S1x128x512 .f32) (y : Vec Ideal S1x1x128x512 .bf16) (u : Fin 1) (i : Fin 128) (n : Fin 512) :
    k0_pay46 (F := Ideal) x y (ix3 u i n) = x (ix3 0 i n) + y (ix4 0 0 i n) ∧ (∀ w : Fin 1, k0_pay47 (F := Ideal) x y (ix4 u w i n) = x (ix3 0 i n) + y (ix4 0 0 i n))
      ∧ k0_pay54 (F := Ideal) x y (ix3 u i n) = x (ix3 0 i n) + y (ix4 0 0 i n) := by
  unfold k0_pay46 k0_pay47 k0_pay54 k0_pay45
  refine ⟨?_, fun w => ?_, ?_⟩ <;> pointwise
theorem add64_at (x : Vec Ideal S1x64x512 .f32) (y : Vec Ideal S1x1x64x512 .bf16) (u : Fin 1) (i : Fin 64) (n : Fin 512) :
    k0_pay49 (F := Ideal) (k0_pay48 x y) (ix3 u i n) = x (ix3 0 i n) + y (ix4 0 0 i n)
      ∧ (∀ w : Fin 1, k0_pay50 (F := Ideal) (k0_pay48 x y) (ix4 u w i n) = x (ix3 0 i n) + y (ix4 0 0 i n))
      ∧ k0_pay52 (F := Ideal) x y (ix3 u i n) = x (ix3 0 i n) + y (ix4 0 0 i n)
      ∧ (∀ w : Fin 1, k0_pay53 (F := Ideal) x y (ix4 u w i n) = x (ix3 0 i n) + y (ix4 0 0 i n))
      ∧ k0_pay55 (F := Ideal) x y (ix3 u i n) = x (ix3 0 i n) + y (ix4 0 0 i n)
      ∧ k0_pay57 (F := Ideal) (k0_pay56 x y) (ix3 u i n) = x (ix3 0 i n) + y (ix4 0 0 i n) := by
  unfold k0_pay49 k0_pay48 k0_pay50 k0_pay52 k0_pay53 k0_pay55 k0_pay57 k0_pay56 k0_pay51
  refine ⟨?_, fun w => ?_, ?_, fun w => ?_, ?_, ?_⟩ <;> pointwise

/-- The two exchanges reach every device once. -/
theorem sum_devices (f : Dev nD → EReal) : ∀ c : Dev nD, (f c + f (near c)) + (f (far c) + f (near (far c))) = ∑ d, f d := by
  have e : (∑ d, f d) = f 0 + f 1 + f 2 + f 3 := Fin.sum_univ_four f
  have h : ∀ c : Dev nD, c = 0 ∨ c = 1 ∨ c = 2 ∨ c = 3 := by decide
  have n0 : near 0 = 1 := by decide
  have n1 : near 1 = 0 := by decide
  have n2 : near 2 = 3 := by decide
  have n3 : near 3 = 2 := by decide
  have f0 : far 0 = 3 := by decide
  have f1 : far 1 = 2 := by decide
  have f2 : far 2 = 1 := by decide
  have f3 : far 3 = 0 := by decide
  intro c
  rw [e]
  rcases h c with rfl | rfl | rfl | rfl
  · rw [n0, f0, n3]; abel
  · rw [n1, f1, n2]; abel
  · rw [n2, f2, n1]; abel
  · rw [n3, f3, n0]; abel

variable (I : Dev nD → Blocks Ideal) (c : Dev nD)

theorem total0_at (u : Fin 1) (i : Fin 128) (n : Fin 512) :
    (total0 I c : S1x128x512.Idx → EReal) (ix3 u i n) = ∑ d, addend (I d) 0 i n := by
  rw [← sum_devices (fun d => addend (I d) 0 i n) c, ← part0_at (I c) 0, ← send0_at (I (near c)) 0 0, ← part0_at (I (far c)) 0, ← send0_at (I (near (far c))) 0 0]
  exact ((add128_at (pair0 I c) (sent I (far c) 3) u i n).2.2).trans
    (congrArg₂ (· + ·) (add128_at (part0 (I c)) (send0 (I (near c))) 0 i n).1 ((add128_at (part0 (I (far c))) (send0 (I (near (far c)))) 0 i n).2.1 0))
theorem total1_at (u : Fin 1) (i : Fin 64) (n : Fin 512) :
    (total1 I c : S1x64x512.Idx → EReal) (ix3 u i n) = ∑ d, addend (I d) 1 ⟨i.val, by omega⟩ n := by
  rw [← sum_devices (fun d => addend (I d) 1 ⟨i.val, by omega⟩ n) c, ← part1_at (I c) 0, ← send1_at (I (near c)) 0 0, ← part1_at (I (far c)) 0, ← send1_at (I (near (far c))) 0 0]
  exact ((add64_at (pair1 I c) (sent I (far c) 4) u i n).2.2.2.2.1).trans
    (congrArg₂ (· + ·) (add64_at (part1 (I c)) (send1 (I (near c))) 0 i n).1 ((add64_at (part1 (I (far c))) (send1 (I (near (far c)))) 0 i n).2.1 0))
theorem total2_at (u : Fin 1) (i : Fin 64) (n : Fin 512) :
    (total2 I c : S1x64x512.Idx → EReal) (ix3 u i n) = ∑ d, addend (I d) 1 ⟨64 + i.val, by omega⟩ n := by
  rw [← sum_devices (fun d => addend (I d) 1 ⟨64 + i.val, by omega⟩ n) c, ← part2_at (I c) 0, ← send2_at (I (near c)) 0 0, ← part2_at (I (far c)) 0, ← send2_at (I (near (far c))) 0 0]
  exact ((add64_at (pair2 I c) (sent I (far c) 5) u i n).2.2.2.2.2).trans
    (congrArg₂ (· + ·) (add64_at (part2 (I c)) (send2 (I (near c))) 0 i n).2.2.1 ((add64_at (part2 (I (far c))) (send2 (I (near (far c)))) 0 i n).2.2.2.1 0))

end Sums

/-! ## The result -/

theorem chunk0_emb (i : Fin 128) (n : Fin 512) : (chunk 0).emb (ix3 (0 : Fin 1) i n) = ix3 (0 : Fin 2) i n := by
  refine funext fun a => Fin.ext ?_
  match a with
  | ⟨0, _⟩ => rfl
  | ⟨1, _⟩ => show 0 + 1 * i.val = i.val; omega
  | ⟨2, _⟩ => show 0 + 1 * n.val = n.val; omega
theorem chunk1_emb (i : Fin 64) (n : Fin 512) : (chunk 1).emb (ix3 (0 : Fin 1) i n) = ix3 (1 : Fin 2) (⟨i.val, by omega⟩ : Fin 128) n := by
  refine funext fun a => Fin.ext ?_
  match a with
  | ⟨0, _⟩ => rfl
  | ⟨1, _⟩ => show 0 + 1 * i.val = i.val; omega
  | ⟨2, _⟩ => show 0 + 1 * n.val = n.val; omega
theorem chunk2_emb (i : Fin 64) (n : Fin 512) : (chunk 2).emb (ix3 (0 : Fin 1) i n) = ix3 (1 : Fin 2) (⟨64 + i.val, by omega⟩ : Fin 128) n := by
  refine funext fun a => Fin.ext ?_
  match a with
  | ⟨0, _⟩ => rfl
  | ⟨1, _⟩ => show 64 + 1 * i.val = 64 + i.val; omega
  | ⟨2, _⟩ => show 0 + 1 * n.val = n.val; omega

variable (m : (ℓ : Loc nD τ sig) → Buf (Elt Ideal) ℓ)

/-- On every device the result is the sum over the devices. -/
theorem result_at (c : Dev nD) (b : Fin 2) (r : Fin 128) (n : Fin 512) : result m c (ix3 b r n) = ∑ d, addend (blocks m d) b r n := by
  unfold result
  rw [← read_out (assembled (total (blocks m) c))]
  match b with
  | ⟨0, _⟩ =>
    show outM.view.read (Elt Ideal) _ (ix3 (0 : Fin 2) r n) = _
    rw [← chunk0_emb r n, assembled_0]
    exact total0_at (blocks m) c 0 r n
  | ⟨1, _⟩ =>
    show outM.view.read (Elt Ideal) _ (ix3 (1 : Fin 2) r n) = _
    by_cases h : r.val < 64
    · rw [← chunk1_emb ⟨r.val, h⟩ n, assembled_1]
      exact total1_at (blocks m) c 0 ⟨r.val, h⟩ n
    · have e : r = ⟨64 + (⟨r.val - 64, by omega⟩ : Fin 64).val, by simp; omega⟩ := Fin.ext (by simp; omega)
      rw [e, ← chunk2_emb ⟨r.val - 64, by omega⟩ n, assembled_2]
      exact total2_at (blocks m) c 0 ⟨r.val - 64, by omega⟩ n

end Cert.KernelIdeal.Exchange

end
-- ==== Proof.Mask.lean ====
/-
  THE KERNEL'S MASK, read at an index: which keys a row keeps.
-/
module

public import proofs.«01_k».proof.Proof.Values
public import proofs.«01_k».proof.Proof.Attend
public import Idealize.ShloMosaic.Lib.Pointwise

@[expose] public section

noncomputable section

namespace Cert.KernelIdeal.Exchange

open Cert.KernelIdeal Cert.KernelIdeal.Gen
open Idealize.ShloMosaic Idealize.ShloMosaic.TcCoe
open Cert.Attention

/-- The block of the row. -/
theorem rowBlock_at (i j : Fin 128) : k0_pay5 k0_pay2 k0_pay3 k0_pay4 0#32 (ix2 i j) = BitVec.ofNat 32 (i.val / 64) := by
  unfold k0_pay5 k0_pay2 k0_pay3 k0_pay4
  pointwise
  clear j
  revert i
  decide +kernel

/-- The block of the key. -/
theorem keyBlock_at (i j : Fin 128) : k0_pay6 (ix2 i j) = BitVec.ofNat 32 (j.val / 64) := by
  unfold k0_pay6
  pointwise
  clear i
  revert j
  decide +kernel

theorem mask_at (i j : Fin 128) : mask (ix2 i j) = isKept i j := by
  unfold mask m69 m74 m76 m78 w79 k0_pay11 k0_pay7 k0_pay9 k0_pay10 k0_pay8 w72 isKept
  pointwise
  rw [rowBlock_at, keyBlock_at]
  rcases (by omega : i.val / 64 = 0 ∨ i.val / 64 = 1) with hi | hi <;> rcases (by omega : j.val / 64 = 0 ∨ j.val / 64 = 1) with hj | hj <;>
    rw [hi, hj] <;> decide +kernel

end Cert.KernelIdeal.Exchange

end
-- ==== Proof.Operands.lean ====
/-
  THE OPERANDS OF ONE DEVICE, read from the launch memory: three of the arguments whole, and the device's four heads of
  the keys and of the values.
-/
module

public import proofs.«01_k».proof.Proof.Region
public import Idealize.ShloMosaic.Lib.Pointwise
public import Idealize.ShloMosaic.Lib.Claim
public import Idealize.ShloMosaic.Lib.DynamicIndex
public import Idealize.ShloMosaic.Lib.Pipeline.ValueKit

@[expose] public section

noncomputable section

namespace Cert.KernelIdeal.Exchange

open Cert.KernelIdeal Cert.KernelIdeal.Gen
open Idealize.ShloMosaic Idealize.ShloMosaic.TcCoe

variable (m : (ℓ : Loc nD τ sig) → Buf (Elt Ideal) ℓ)

/-! ## The heads of a device -/

/-- Head `h` of device `c` among all sixteen. -/
def headOf (c : Dev nD) (h : Fin 4) : Fin 16 := ⟨4 * c.val + h.val, by have := c.isLt; have : nD = 4 := rfl; omega⟩

theorem first_head : ∀ c : Dev nD, (select (cmpi .slt (muli (Host.remui (Host.divui (constantI S_ 32 (Dev.word c)) (constantI S_ 32 1#32)) (constantI S_ 32 4#32)) (constantI S_ 32 4#32)) (constantI S_ 32 0#32))
    (addi (muli (Host.remui (Host.divui (constantI S_ 32 (Dev.word c)) (constantI S_ 32 1#32)) (constantI S_ 32 4#32)) (constantI S_ 32 4#32)) (constantI S_ 32 16#32))
    (muli (Host.remui (Host.divui (constantI S_ 32 (Dev.word c)) (constantI S_ 32 1#32)) (constantI S_ 32 4#32)) (constantI S_ 32 4#32))
    (Shape.Idx.first h_S_)).toInt = ((4 * c.val : ℕ) : ℤ) := by
  decide +kernel

/-- The slice of four heads at `s` = 4·c, read at an index. -/
theorem heads_at (c : Dev nD) (x : S2x128x16x64.Idx → EReal) (s : Fin 4 → ℤ) (hs : ∀ a, s a = ((![0, 0, 4 * c.val, 0] : Fin 4 → ℕ) a : ℤ))
    (b : Fin 2) (j : Fin 128) (h : Fin 4) (d : Fin 64) :
    Host.dynamicSlice S2x128x4x64 x s sliceFits_S2x128x16x64_S2x128x4x64 (ix4 b j h d) = x (ix4 b j (headOf c h) d) := by
  have hc : c.val < 4 := c.isLt
  have hoff : S2x128x16x64.Slices ![0, 0, 4 * c.val, 0] S2x128x4x64 := by
    refine ⟨rfl, fun a => ?_⟩
    match a with
    | ⟨0, _⟩ => show 0 + 2 ≤ 2; omega
    | ⟨1, _⟩ => show 0 + 128 ≤ 128; omega
    | ⟨2, _⟩ => show 4 * c.val + 4 ≤ 16; omega
    | ⟨3, _⟩ => show 0 + 64 ≤ 64; omega
  rw [Host.dynamicSlice_eq_extractStridedSlice S2x128x4x64 x s ![0, 0, 4 * c.val, 0] _ hoff hs]
  unfold extractStridedSlice
  refine congrArg x (funext fun a => Fin.ext ?_)
  match a with
  | ⟨0, _⟩ => show 0 + b.val = b.val; omega
  | ⟨1, _⟩ => show 0 + j.val = j.val; omega
  | ⟨2, _⟩ => show 4 * c.val + h.val = 4 * c.val + h.val; rfl
  | ⟨3, _⟩ => show 0 + d.val = d.val; omega

/-! ## The operands -/

theorem x_eq (c : Dev nD) : (blocks m c).x = m ((c : Thread nD τ).loc main_arg0) := by
  refine Eq.trans (b := V1 m c main_arg0) ?_ (V1_of m c main_arg0 (by decide))
  show (win0_0.blk t0_0).view.read (Elt Ideal) (V1 m c main_arg0) = _
  generalize V1 m c main_arg0 = f
  exact funext fun i => congrArg f (funext fun a => Fin.ext (win0_0.rect_emb_val_of_index_zero t0_0 a rfl i))

theorem wq_eq (c : Dev nD) : (blocks m c).wq = m ((c : Thread nD τ).loc main_arg1) := by
  refine Eq.trans (b := V1 m c main_arg1) ?_ (V1_of m c main_arg1 (by decide))
  show (win0_1.blk t0_0).view.read (Elt Ideal) (V1 m c main_arg1) = _
  generalize V1 m c main_arg1 = f
  exact funext fun i => congrArg f (funext fun a => Fin.ext (win0_1.rect_emb_val_of_index_zero t0_0 a rfl i))

theorem wo_eq (c : Dev nD) : (blocks m c).wo = m ((c : Thread nD τ).loc main_arg4) := by
  refine Eq.trans (b := V1 m c main_arg4) ?_ (V1_of m c main_arg4 (by decide))
  show (win0_4.blk t0_0).view.read (Elt Ideal) (V1 m c main_arg4) = _
  generalize V1 m c main_arg4 = f
  exact funext fun i => congrArg f (funext fun a => Fin.ext (win0_4.rect_emb_val_of_index_zero t0_0 a rfl i))

theorem keys_read (c : Dev nD) (b : Fin 2) (j : Fin 128) (h : Fin 4) (d : Fin 64) :
    V1 m c main_v9 (ix4 b j h d) = m ((c : Thread nD τ).loc main_arg2) (ix4 b j (headOf c h) d) := by
  unfold V1
  entry_read
  refine heads_at c (m ((c : Thread nD τ).loc main_arg2)) _ (fun a => ?_) b j h d
  match a with
  | ⟨0, _⟩ =>
    simp only [Fin.zero_eta, Matrix.cons_val_zero]
    after_results_simp
    rfl
  | ⟨1, _⟩ =>
    simp only [Fin.mk_one, Matrix.cons_val_one, Matrix.cons_val_zero]
    after_results_simp
    rfl
  | ⟨2, _⟩ =>
    simp only [Fin.reduceFinMk, Matrix.cons_val]
    after_results_simp
    exact first_head c
  | ⟨3, _⟩ =>
    simp only [Fin.reduceFinMk, Matrix.cons_val]
    after_results_simp
    rfl

theorem keys_at (c : Dev nD) (b : Fin 2) (j : Fin 128) (h : Fin 4) (d : Fin 64) :
    (blocks m c).k (ix4 b j h d) = m ((c : Thread nD τ).loc main_arg2) (ix4 b j (headOf c h) d) := by
  rw [← keys_read m c b j h d]
  show (win0_2.blk t0_0).view.read (Elt Ideal) (V1 m c main_v9) _ = _
  generalize V1 m c main_v9 = f
  exact congrArg f (funext fun a => Fin.ext (win0_2.rect_emb_val_of_index_zero t0_0 a rfl _))

theorem values_read (c : Dev nD) (b : Fin 2) (j : Fin 128) (h : Fin 4) (d : Fin 64) :
    V1 m c main_v14 (ix4 b j h d) = m ((c : Thread nD τ).loc main_arg3) (ix4 b j (headOf c h) d) := by
  unfold V1
  entry_read
  refine heads_at c (m ((c : Thread nD τ).loc main_arg3)) _ (fun a => ?_) b j h d
  match a with
  | ⟨0, _⟩ =>
    simp only [Fin.zero_eta, Matrix.cons_val_zero]
    after_results_simp
    rfl
  | ⟨1, _⟩ =>
    simp only [Fin.mk_one, Matrix.cons_val_one, Matrix.cons_val_zero]
    after_results_simp
    rfl
  | ⟨2, _⟩ =>
    simp only [Fin.reduceFinMk, Matrix.cons_val]
    after_results_simp
    exact first_head c
  | ⟨3, _⟩ =>
    simp only [Fin.reduceFinMk, Matrix.cons_val]
    after_results_simp
    rfl

theorem values_at (c : Dev nD) (b : Fin 2) (j : Fin 128) (h : Fin 4) (d : Fin 64) :
    (blocks m c).v (ix4 b j h d) = m ((c : Thread nD τ).loc main_arg3) (ix4 b j (headOf c h) d) := by
  rw [← values_read m c b j h d]
  show (win0_3.blk t0_0).view.read (Elt Ideal) (V1 m c main_v14) _ = _
  generalize V1 m c main_v14 = f
  exact congrArg f (funext fun a => Fin.ext (win0_3.rect_emb_val_of_index_zero t0_0 a rfl _))

end Cert.KernelIdeal.Exchange

end
-- ==== Proof.Reference.lean ====
/-
  THE REFERENCE IN STAGES: the mask, the masked scores, the exponentials, the weights, the result.
-/
module

public import proofs.«01_k».proof.Proof.Gen.ReferenceIdeal.Run
public import proofs.«01_k».proof.Proof.Attend
public import Idealize.ShloMosaic.Lib.Pointwise

@[expose] public section

noncomputable section

namespace Cert.ReferenceIdeal.Stages

open Cert.ReferenceIdeal Cert.ReferenceIdeal.Gen
open Idealize.ShloMosaic Idealize.ShloMosaic.TcCoe
open Cert.Attention

/-! ## The mask -/

/-- The block of 64 that a position is in. -/
def blockOf : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32))))
        (broadcastInDim S128 ![] bcast_S_S128 (constantI S_ 32 0#32))))
    (subi (Host.divsi (iotaInDim S128 32 0) (broadcastInDim S128 ![] bcast_S_S128 (id (constantI S_ 32 64#32))))
      (broadcastInDim S128 ![] bcast_S_S128 (constantI S_ 32 1#32)))
    (Host.divsi (iotaInDim S128 32 0) (broadcastInDim S128 ![] bcast_S_S128 (id (constantI S_ 32 64#32))))

def ofRow : IVec S128x128 32 := broadcastInDim S128x128 ![0, 1] bcast_S128x1_S128x128_0_1 (broadcastInDim S128x1 ![0] bcast_S128_S128x1_0 blockOf)
def ofKey : IVec S128x128 32 := broadcastInDim S128x128 ![0, 1] bcast_S1x128_S128x128_0_1 (broadcastInDim S1x128 ![1] bcast_S128_S1x128_1 blockOf)
def three : IVec S_ 32 :=
  select (cmpi .eq (id (constantI S_ 32 3#32)) (constantI S_ 32 0#32)) (constantI S_ 32 1#32) (id (constantI S_ 32 3#32))
/-- The sum of the two blocks' numbers, its remainder by three with the dividend's sign. -/
def rest : IVec S128x128 32 := Host.remsi (addi ofRow ofKey) (broadcastInDim S128x128 ![] bcast_S_S128x128 three)
/-- Which scores are kept. -/
def keep : IVec S128x128 1 :=
  ori (ori (cmpi .eq ofRow ofKey)
      (broadcastInDim S128x128 ![0, 1] bcast_S1x128_S128x128_0_1
        (cmpi .eq (broadcastInDim S1x128 ![1] bcast_S128_S1x128_1 blockOf) (broadcastInDim S1x128 ![] bcast_S_S1x128 (constantI S_ 32 0#32)))))
    (cmpi .eq
      (select
        (andi (cmpi .ne (cmpi .slt rest (broadcastInDim S128x128 ![] bcast_S_S128x128 (constantI S_ 32 0#32)))
            (broadcastInDim S128x128 ![] bcast_S_S128x128 (cmpi .slt three (constantI S_ 32 0#32))))
          (cmpi .ne rest (broadcastInDim S128x128 ![] bcast_S_S128x128 (constantI S_ 32 0#32))))
        (addi rest (broadcastInDim S128x128 ![] bcast_S_S128x128 three)) rest)
      (broadcastInDim S128x128 ![] bcast_S_S128x128 (constantI S_ 32 0#32)))
/-- Which rows keep some score. -/
def rowKept : IVec S128 1 := Host.reduce IntOp.ori keep (constantI S_ 1 0#1) reducesTo_S128x128_S128_d1 h_S_

/-! ## The values -/

section Values
variable (x : FVec Ideal S2x128x512 .bf16) (wq : FVec Ideal S512x1024 .bf16) (k v : FVec Ideal S2x128x16x64 .bf16) (wo : FVec Ideal S1024x512 .bf16)

/-- The scores, a masked one −∞. -/
def scores : FVec Ideal S2x16x128x128 .f32 :=
  select (broadcastInDim S2x16x128x128 ![0, 1, 2, 3] bcast_S1x1x128x128_S2x16x128x128_0_1_2_3
      (broadcastInDim S1x1x128x128 ![2, 3] bcast_S128x128_S1x1x128x128_2_3 keep))
    (mulf (extf .f32 (truncf .bf16
        (Host.dotGeneral dot_S2x128x16x64_S2x128x16x64_S2x16x128x128_3_3_1_1_02_02 none
          (shapeCast S2x128x16x64 (truncf .bf16 (Host.dotGeneral dot_S2x128x512_S512x1024_S2x128x1024_2_0_01_1_n_n none x wq) bitsLt_bf16_f32)
            shapeCasts_S2x128x1024_S2x128x16x64) k) bitsLt_bf16_f32) bitsLt_bf16_f32)
      (broadcastInDim S2x16x128x128 ![] bcast_S_S2x16x128x128 (constant S_ .f32 0x3E000000#32)))
    (broadcastInDim S2x16x128x128 ![] bcast_S_S2x16x128x128 (id (constant S_ .f32 0xFF800000#32)))

/-- The largest score of a row. -/
def largest (s : FVec Ideal S2x16x128x128 .f32) : FVec Ideal S2x16x128 .f32 :=
  Host.reduce FloatOps.maximumf s (constant S_ .f32 0xFF800000#32) reducesTo_S2x16x128x128_S2x16x128_d3 h_S_

/-- The exponentials of the scores less the largest of their row. -/
def raised (s : FVec Ideal S2x16x128x128 .f32) : FVec Ideal S2x16x128x128 .f32 :=
  Host.exp (subf s (broadcastInDim S2x16x128x128 ![0, 1, 2, 3] bcast_S2x16x128x1_S2x16x128x128_0_1_2_3
    (broadcastInDim S2x16x128x1 ![0, 1, 2] bcast_S2x16x128_S2x16x128x1_0_1_2 (largest s))))

/-- The weights: each exponential over the sum of its row. -/
def weights (e : FVec Ideal S2x16x128x128 .f32) : FVec Ideal S2x16x128x128 .f32 :=
  select (broadcastInDim S2x16x128x128 ![0, 1, 2, 3] bcast_S1x1x128x1_S2x16x128x128_0_1_2_3 (broadcastInDim S1x1x128x1 ![2] bcast_S128_S1x1x128x1_2 rowKept))
    (Host.divf e (broadcastInDim S2x16x128x128 ![0, 1, 2, 3] bcast_S2x16x128x1_S2x16x128x128_0_1_2_3
      (select (broadcastInDim S2x16x128x1 ![0, 1, 2, 3] bcast_S1x1x128x1_S2x16x128x1_0_1_2_3 (broadcastInDim S1x1x128x1 ![2] bcast_S128_S1x1x128x1_2 rowKept))
        (broadcastInDim S2x16x128x1 ![0, 1, 2] bcast_S2x16x128_S2x16x128x1_0_1_2
          (Host.reduceAdd e (constant S_ .f32 0x00000000#32) reducesTo_S2x16x128x128_S2x16x128_d3 h_S_))
        (broadcastInDim S2x16x128x1 ![] bcast_S_S2x16x128x1 (id (constant S_ .f32 0x3F800000#32))))))
    (broadcastInDim S2x16x128x128 ![] bcast_S_S2x16x128x128 (id (constant S_ .f32 0x00000000#32)))

/-- The values under the weights, through the output projection. -/
def output (p : FVec Ideal S2x16x128x128 .f32) : FVec Ideal S2x128x512 .f32 :=
  Host.dotGeneral dot_S2x128x1024_S1024x512_S2x128x512_2_0_01_1_n_n none
    (shapeCast S2x128x1024 (transpose S2x128x16x64 [0, 3, 1, 2]
      (Host.dotGeneral dot_S2x128x16x64_S2x16x128x128_S2x16x64x128_1_3_3_2_02_01 none (extf .f32 v bitsLt_bf16_f32) p)
      transposes_S2x16x64x128_S2x128x16x64_0_3_1_2) shapeCasts_S2x128x16x64_S2x128x1024)
    (extf .f32 wo bitsLt_bf16_f32)

end Values

theorem result_stages (m : (ℓ : Loc nD τ sig) → Buf (Elt Ideal) ℓ) (c : Dev nD) :
    Cert.ReferenceIdeal.Value.res_main_v49 m c
      = output (m ((c.tc : Thread nD τ).loc main_arg3)) (m ((c.tc : Thread nD τ).loc main_arg4))
          (weights (raised (scores (m ((c.tc : Thread nD τ).loc main_arg0)) (m ((c.tc : Thread nD τ).loc main_arg1)) (m ((c.tc : Thread nD τ).loc main_arg2))))) := by
  unfold Cert.ReferenceIdeal.Value.res_main_v49
  rfl

/-! ## The mask at an index -/

theorem block_at : ∀ i : Fin 128, blockOf (ix1 i) = BitVec.ofNat 32 (i.val / 64) := by
  unfold blockOf
  decide +kernel

theorem two_blocks (i : Fin 128) : i.val / 64 = 0 ∨ i.val / 64 = 1 := by omega

theorem keep_at (i j : Fin 128) : keep (ix2 i j) = isKept i j := by
  unfold keep rest ofRow ofKey three isKept
  pointwise
  rw [block_at, block_at]
  rcases two_blocks i with hi | hi <;> rcases two_blocks j with hj | hj <;> rw [hi, hj] <;> decide +kernel

/-- A disjunction with a true member is true. -/
theorem fold_or {n : ℕ} (f : Fin n → BitVec 1) (j : Fin n) (h : f j = 1#1) : Finset.fold IntOp.ori 0#1 f Finset.univ = 1#1 := by
  rw [← Finset.insert_erase (Finset.mem_univ j), Finset.fold_insert (Finset.notMem_erase j _), h]
  generalize Finset.fold IntOp.ori 0#1 f (Finset.univ.erase j) = w
  revert w
  decide

theorem rowKept_at (i : Fin 128) : rowKept (ix1 i) = 1#1 := by
  unfold rowKept
  pointwise
  exact fold_or _ 0 ((keep_at i 0).trans (isKept_first i))

/-! ## The stages at an index -/

theorem negInf : Ideal.ofBits .f32 0xFF800000#32 = ⊥ := by simp [Ideal.ofBits, Ideal.ieee]

section Read
variable (x : FVec Ideal S2x128x512 .bf16) (wq : FVec Ideal S512x1024 .bf16) (k v : FVec Ideal S2x128x16x64 .bf16) (wo : FVec Ideal S1024x512 .bf16)

/-- Column `d` of head `h` among all 1024. -/
def place (h : Fin 16) (d : Fin 64) : Fin 1024 := ⟨h.val * 64 + d.val, by omega⟩

/-- The score of row `i` against key `j` under head `h`. -/
def rawScore (b : Fin 2) (h : Fin 16) (i j : Fin 128) : EReal :=
  score (fun d => ∑ e : Fin 512, x (ix3 b i e) * wq (ix2 e (place h d))) (fun d => k (ix4 b j h d))

theorem scores_at (b : Fin 2) (h : Fin 16) (i j : Fin 128) :
    scores x wq k (ix4 b h i j) = masked (isKept i j) (rawScore x wq k b h i j) := by
  unfold scores
  pointwise
  rw [keep_at]
  exact congrArg (Scalar.select (isKept i j) (rawScore x wq k b h i j)) negInf

theorem largest_at (s : FVec Ideal S2x16x128x128 .f32) (b : Fin 2) (h : Fin 16) (i : Fin 128) :
    largest s (ix3 b h i) = Finset.univ.fold max ⊥ fun j => s (ix4 b h i j) := by
  unfold largest
  pointwise
  rw [negInf]

theorem raised_at (s : FVec Ideal S2x16x128x128 .f32) (b : Fin 2) (h : Fin 16) (i j : Fin 128) :
    raised s (ix4 b h i j) = Ideal.exp (s (ix4 b h i j) - Finset.univ.fold max ⊥ fun j => s (ix4 b h i j)) := by
  rw [← largest_at]
  unfold raised
  pointwise

theorem weights_at (e : FVec Ideal S2x16x128x128 .f32) (b : Fin 2) (h : Fin 16) (i j : Fin 128) :
    weights e (ix4 b h i j) = Ideal.div (e (ix4 b h i j)) (∑ j, e (ix4 b h i j)) := by
  unfold weights
  pointwise
  rw [rowKept_at]
  rfl

theorem output_at (p : FVec Ideal S2x16x128x128 .f32) (b : Fin 2) (i : Fin 128) (n : Fin 512) :
    output v wo p (ix3 b i n) = ∑ o : Fin 1024, (∑ j : Fin 128, v (ix4 b j ⟨o.val / 64, by omega⟩ ⟨o.val % 64, by omega⟩)
      * p (ix4 b ⟨o.val / 64, by omega⟩ i j)) * wo (ix2 o n) := by
  unfold output
  pointwise

/-- What row `i` of batch `b` gets from head `h`, component `d`. -/
def mixed (b : Fin 2) (i : Fin 128) (h : Fin 16) (d : Fin 64) : EReal :=
  softmax (isKept i) (rawScore x wq k b h i) (fun j => v (ix4 b j h d))

/-- The reference's result at an index. -/
theorem output_eq (b : Fin 2) (i : Fin 128) (n : Fin 512) :
    output v wo (weights (raised (scores x wq k))) (ix3 b i n)
      = ∑ o : Fin 1024, mixed x wq k v b i ⟨o.val / 64, by omega⟩ ⟨o.val % 64, by omega⟩ * wo (ix2 o n) := by
  rw [output_at]
  simp only [weights_at, raised_at, scores_at]
  rfl

end Read

end Cert.ReferenceIdeal.Stages

end
-- ==== Proof.Finite.lean ====
/-
  WHAT THE PRECONDITION SAYS: the activations, the query weights and the keys of every device are real numbers.
-/
module

public import proofs.«01_k».proof.Defs
public import proofs.«01_k».proof.Proof.Gen.Pre_finite_KernelIdeal
public import proofs.«01_k».proof.Proof.Attend

@[expose] public section

noncomputable section

namespace Cert.Attention

open Idealize.ShloMosaic Idealize.ShloMosaic.TcCoe
open Cert.KernelIdeal (nD τ sig main_arg0 main_arg1 main_arg2)

theorem posInf : Ideal.ofBits .bf16 0x7F80#16 = ⊤ := by simp [Ideal.ofBits, Ideal.ieee]

/-- What the absolute value of is below +∞ is a real number. -/
theorem real_of_below (x : EReal) (h : BitVec.ofBool (decide (max x (-x) < Ideal.ofBits .bf16 0x7F80#16)) = 1#1) : ∃ r : ℝ, x = r := by
  rw [posInf] at h
  have hlt : max x (-x) < ⊤ := by
    by_contra hn
    rw [decide_eq_false hn] at h
    exact absurd h (by decide)
  rw [max_lt_iff] at hlt
  induction x with
  | bot => exact absurd hlt.2 (by simp)
  | coe r => exact ⟨r, rfl⟩
  | top => exact absurd hlt.1 (by simp)

variable (m : (ℓ : Loc nD τ sig) → Buf (Elt Ideal) ℓ)

theorem x_real (h : Cert.Pre_KernelIdeal_finite_KernelIdeal (hPre_finite_KernelIdeal := Cert.Pre_finite_KernelIdeal.Gen.facts) m) (c : Dev nD)
    (i : Cert.KernelIdeal.S2x128x512.Idx) : ∃ r : ℝ, m ((c.tc : Thread nD τ).loc main_arg0) i = (r : EReal) :=
  real_of_below _ (congrFun (h c).1 i)

theorem wq_real (h : Cert.Pre_KernelIdeal_finite_KernelIdeal (hPre_finite_KernelIdeal := Cert.Pre_finite_KernelIdeal.Gen.facts) m) (c : Dev nD)
    (i : Cert.KernelIdeal.S512x256.Idx) : ∃ r : ℝ, m ((c.tc : Thread nD τ).loc main_arg1) i = (r : EReal) :=
  real_of_below _ (congrFun (h c).2.1 i)

theorem k_real (h : Cert.Pre_KernelIdeal_finite_KernelIdeal (hPre_finite_KernelIdeal := Cert.Pre_finite_KernelIdeal.Gen.facts) m) (c : Dev nD)
    (i : Cert.KernelIdeal.S2x128x16x64.Idx) : ∃ r : ℝ, m ((c.tc : Thread nD τ).loc main_arg2) i = (r : EReal) :=
  real_of_below _ (congrFun (h c).2.2 i)

/-! ## Sums and products of real numbers are real -/

theorem real_sum {n : ℕ} (f : Fin n → EReal) (h : ∀ i, ∃ r : ℝ, f i = r) : ∃ r : ℝ, (∑ i, f i) = r := by
  choose g hg using h
  exact ⟨∑ i, g i, by simp only [hg]; exact sum_coe _ _⟩

theorem real_mul {a b : EReal} (ha : ∃ r : ℝ, a = r) (hb : ∃ r : ℝ, b = r) : ∃ r : ℝ, a * b = r := by
  obtain ⟨x, rfl⟩ := ha
  obtain ⟨y, rfl⟩ := hb
  exact ⟨x * y, (EReal.coe_mul x y).symm⟩

theorem eighth_real : ∃ r : ℝ, Ideal.ofBits .f32 0x3E000000#32 = r :=
  ⟨_, by simp [Ideal.ofBits, Ideal.ieee, -EReal.coe_mul]; rfl⟩

theorem score_real (q k : Fin 64 → EReal) (hq : ∀ d, ∃ r : ℝ, q d = r) (hk : ∀ d, ∃ r : ℝ, k d = r) : ∃ r : ℝ, score q k = r :=
  real_mul (real_sum _ fun d => real_mul (hq d) (hk d)) eighth_real

end Cert.Attention

end
-- ==== Proof.Equal.lean ====
/-
  THE EQUATION: on every device the sum over the devices of what their heads add is the reference's result.
-/
module

public import proofs.«01_k».proof.Proof.Total
public import proofs.«01_k».proof.Proof.Mask
public import proofs.«01_k».proof.Proof.Operands
public import proofs.«01_k».proof.Proof.Reference
public import proofs.«01_k».proof.Proof.Finite

@[expose] public section

noncomputable section

namespace Cert.KernelIdeal.Exchange

open Cert.KernelIdeal
open Idealize.ShloMosaic Idealize.ShloMosaic.TcCoe
open Cert.Attention
open Cert.ReferenceIdeal.Stages (place rawScore mixed output_eq result_stages)

/-! ## A sum over all 1024 columns by device, head and column of the head -/

theorem sum_places (f : Fin 1024 → EReal) : (∑ o, f o) = ∑ H : Fin 16, ∑ d : Fin 64, f (place H d) := by
  rw [← Fintype.sum_prod_type', ← (finProdFinEquiv (m := 16) (n := 64)).sum_comp]
  refine Finset.sum_congr rfl fun p _ => congrArg f (Fin.ext ?_)
  show p.2.val + 64 * p.1.val = p.1.val * 64 + p.2.val
  omega

theorem sum_heads (f : Fin 16 → EReal) : (∑ H, f H) = ∑ c : Dev nD, ∑ h : Fin 4, f (headOf c h) := by
  show _ = ∑ c : Fin 4, ∑ h : Fin 4, f (headOf c h)
  rw [← Fintype.sum_prod_type', ← (finProdFinEquiv (m := 4) (n := 4)).sum_comp]
  refine Finset.sum_congr rfl fun p _ => congrArg f (Fin.ext ?_)
  show p.2.val + 4 * p.1.val = 4 * p.1.val + p.2.val
  omega

/-- A value read at a column's head and place within it. -/
theorem at_place {α : Type} (g : Fin 16 → Fin 64 → α) (H : Fin 16) (d : Fin 64) :
    g ⟨(place H d).val / 64, by omega⟩ ⟨(place H d).val % 64, by omega⟩ = g H d := by
  congr 1
  · exact Fin.ext (by show (H.val * 64 + d.val) / 64 = H.val; omega)
  · exact Fin.ext (by show (H.val * 64 + d.val) % 64 = d.val; omega)

/-! ## The devices' blocks of the whole arrays -/

section
variable (m : (ℓ : Loc nD τ sig) → Buf (Elt Ideal) ℓ)
variable (X : S2x128x512.Idx → EReal) (WQ : (⟨2, ![512, 1024]⟩ : Shape).Idx → EReal) (K V : S2x128x16x64.Idx → EReal)
  (WO : (⟨2, ![1024, 512]⟩ : Shape).Idx → EReal)

/-- The devices hold their parts of the whole arrays. -/
structure Parts : Prop where
  x : ∀ c : Dev nD, m ((c.tc : Thread nD τ).loc main_arg0) = X
  wq : ∀ c : Dev nD, m ((c.tc : Thread nD τ).loc main_arg1) = Layout.block ⟨2, ![512, 256]⟩ ⟨2, ![512, 1024]⟩ 1 4 c WQ
  k : ∀ c : Dev nD, m ((c.tc : Thread nD τ).loc main_arg2) = K
  v : ∀ c : Dev nD, m ((c.tc : Thread nD τ).loc main_arg3) = V
  wo : ∀ c : Dev nD, m ((c.tc : Thread nD τ).loc main_arg4) = Layout.block ⟨2, ![256, 512]⟩ ⟨2, ![1024, 512]⟩ 0 4 c WO

variable {m X WQ K V WO} (P : Parts m X WQ K V WO)
include P

theorem wq_part (c : Dev nD) (e : Fin 512) (h : Fin 4) (d : Fin 64) :
    (blocks m c).wq (ix2 e (column h d)) = WQ (ix2 e (place (headOf c h) d)) := by
  rw [wq_eq, P.wq, Layout.block_apply]
  refine congrArg WQ (funext fun a => Fin.ext ?_)
  match a with
  | ⟨0, _⟩ => rfl
  | ⟨1, _⟩ => show c.val * 256 + (64 * h.val + d.val) = (4 * c.val + h.val) * 64 + d.val; omega

theorem wo_part (c : Dev nD) (h : Fin 4) (d : Fin 64) (n : Fin 512) :
    (blocks m c).wo (ix2 (column h d) n) = WO (ix2 (place (headOf c h) d) n) := by
  rw [wo_eq, P.wo, Layout.block_apply]
  refine congrArg WO (funext fun a => Fin.ext ?_)
  match a with
  | ⟨0, _⟩ => show c.val * 256 + (64 * h.val + d.val) = (4 * c.val + h.val) * 64 + d.val; omega
  | ⟨1, _⟩ => rfl

theorem query_part (c : Dev nD) (b : Fin 2) (r : Fin 128) (h : Fin 4) (d : Fin 64) :
    query (blocks m c) b r h d = ∑ e : Fin 512, X (ix3 b r e) * WQ (ix2 e (place (headOf c h) d)) := by
  unfold query
  simp only [wq_part P, x_eq, P.x]

theorem query_real (hm : Cert.Pre_KernelIdeal_finite_KernelIdeal (hPre_finite_KernelIdeal := Cert.Pre_finite_KernelIdeal.Gen.facts) m)
    (c : Dev nD) (b : Fin 2) (r : Fin 128) (h : Fin 4) (d : Fin 64) : ∃ q : ℝ, query (blocks m c) b r h d = q := by
  unfold query
  simp only [x_eq, wq_eq]
  exact real_sum _ fun e => real_mul (x_real m hm c _) (wq_real m hm c _)

/-- A device's head gives what the reference's head of that number gives. -/
theorem context_part (hm : Cert.Pre_KernelIdeal_finite_KernelIdeal (hPre_finite_KernelIdeal := Cert.Pre_finite_KernelIdeal.Gen.facts) m)
    (c : Dev nD) (b : Fin 2) (r : Fin 128) (h : Fin 4) (d : Fin 64) :
    context (blocks m c) b r h d = mixed X WQ K V b r (headOf c h) d := by
  have hscore : (fun j => score (query (blocks m c) b r h) (fun x => (blocks m c).k (ix4 b j h x))) = rawScore X WQ K b (headOf c h) r := by
    funext j
    unfold rawScore
    congr 1
    · exact funext fun x => query_part P c b r h x
    · exact funext fun x => by rw [keys_at, P.k]
  unfold context mixed
  rw [softmax_eq_attend _ _ _ (fun j => ?_) ⟨0, isKept_first r⟩, ← hscore]
  · congr 1
    · exact funext fun j => mask_at r j
    · exact funext fun j => by rw [values_at, P.v]
  · rw [← hscore]
    exact score_real _ _ (fun x => query_real P hm c b r h x) fun x => by rw [keys_at]; exact k_real m hm c _

end

/-! ## The result -/

theorem result_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (hm : Cert.Pre_KernelIdeal_finite_KernelIdeal (hPre_finite_KernelIdeal := Cert.Pre_finite_KernelIdeal.Gen.facts) m)
    (d₀ : Dev Cert.ReferenceIdeal.nD)
    (P : Parts m (m' ((d₀.tc : Thread Cert.ReferenceIdeal.nD Cert.ReferenceIdeal.τ).loc Cert.ReferenceIdeal.main_arg0))
      (m' ((d₀.tc : Thread Cert.ReferenceIdeal.nD Cert.ReferenceIdeal.τ).loc Cert.ReferenceIdeal.main_arg1))
      (m' ((d₀.tc : Thread Cert.ReferenceIdeal.nD Cert.ReferenceIdeal.τ).loc Cert.ReferenceIdeal.main_arg2))
      (m' ((d₀.tc : Thread Cert.ReferenceIdeal.nD Cert.ReferenceIdeal.τ).loc Cert.ReferenceIdeal.main_arg3))
      (m' ((d₀.tc : Thread Cert.ReferenceIdeal.nD Cert.ReferenceIdeal.τ).loc Cert.ReferenceIdeal.main_arg4)))
    (c : Dev nD) : result m c = Cert.ReferenceIdeal.Value.res_main_v49 m' d₀ := by
  funext i
  obtain ⟨b, r, n, rfl⟩ : ∃ (b : Fin 2) (r : Fin 128) (n : Fin 512), i = ix3 b r n := ⟨i 0, i 1, i 2, funext fun a => by
    match a with
    | ⟨0, _⟩ => rfl
    | ⟨1, _⟩ => rfl
    | ⟨2, _⟩ => rfl⟩
  rw [result_at, result_stages]
  refine Eq.trans ?_ (output_eq _ _ _ _ _ b r n).symm
  rw [sum_places, sum_heads]
  refine Finset.sum_congr rfl fun c' _ => ?_
  unfold addend
  refine Finset.sum_congr rfl fun h _ => Finset.sum_congr rfl fun d _ => ?_
  rw [context_part P hm, wo_part P]
  refine congrArg (· * _) ?_
  exact (at_place (mixed _ _ _ _ b r) (headOf c' h) d).symm

end Cert.KernelIdeal.Exchange

end
-- ==== Proof.lean ====
/-
  THE CERTIFICATE: each claim from the run of the exchange kernel and the run of the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Run
public import proofs.«01_k».proof.Proof.Equal
public import Idealize.ShloMosaic.Adequacy
public import Idealize.ShloMosaic.Init

@[expose] public section

noncomputable section

namespace Cert.Proof

open Idealize.ShloMosaic Idealize.SL.Sem
open Cert.KernelIdeal.Exchange (run_main Ends result_eq)

/-- The two kernels' bodies are one text. -/
theorem bodies_eq : (Cert.Kernel.defs₀ (F := Bits)) = Cert.KernelIdeal.defs₀ (F := Bits) := by
  unfold Cert.Kernel.defs₀ Cert.KernelIdeal.defs₀
  congr 1
  funext i x
  match i, x with
  | 0, (t, s) => rfl
  | ⟨_ + 1, h⟩, _ => exact absurd h (Nat.not_lt.2 (Nat.le_add_left _ _))
theorem defs_eq : (Cert.Kernel.defs (F := Bits)) = Cert.KernelIdeal.defs (F := Bits) :=
  (congrArg (Pipeline.defs (Cert.Kernel.pcfgs (F := Bits))) bodies_eq).trans rfl

/-- The kernel's frame: its run, the result dropped. The run of the idealized kernel, read over the chip's words, is the
    run of the kernel itself. -/
theorem frame_kernel : Cert.quiescent_Kernel := fun m ρ _ =>
  Eq.mpr (congrArg (fun d => θ_run d (onTc (τ := Cert.Kernel.τ) (Cert.Kernel.main (F := Bits))) ⟨m, fun _ => 0, ρ⟩ _) defs_eq)
    ((θ_run Cert.KernelIdeal.defs _ _).mono
      (fun _ h => ⟨fun c => have e := (h.1 c).1; ⟨e.1, e.2.1, e.2.2.1, e.2.2.2.1, e.2.2.2.2.1⟩, h.2⟩) (run_main (F := Bits) m ρ))

/-- The idealized kernel's frame. -/
theorem frame_ideal : Cert.quiescent_KernelIdeal := fun m ρ _ =>
  (θ_run Cert.KernelIdeal.defs _ _).mono
    (fun _ h => ⟨fun c => have e := (h.1 c).1; ⟨e.1, e.2.1, e.2.2.1, e.2.2.2.1, e.2.2.2.2.1⟩, h.2⟩) (run_main (F := Ideal) m ρ)

/-- The reference's frame: it signals nothing. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The values: both programs run, and every device ends with the reference's result. -/
theorem values_equal : Cert.algebraic_KernelIdeal_ReferenceIdeal_pre_finite_KernelIdeal
    (hPre_finite_KernelIdeal := Cert.Pre_finite_KernelIdeal.Gen.facts) := fun m g m' g' hm hagree =>
  ⟨Cert.ReferenceIdeal.Value.res_main_v49 m' 0,
    (θ_run Cert.KernelIdeal.defs _ _).mono
      (fun _ h c => have e := (h.1 c).1
        ⟨e.2.2.2.2.2.trans (result_eq m m' hm 0 ⟨fun c => (hagree c).1, fun c => (hagree c).2.1, fun c => (hagree c).2.2.1,
            fun c => (hagree c).2.2.2.1, fun c => (hagree c).2.2.2.2⟩ c),
          e.1, e.2.1, e.2.2.1, e.2.2.2.1, e.2.2.2.2.1⟩)
      (run_main (F := Ideal) m g),
    (θ_run Cert.ReferenceIdeal.defs _ _).mono (fun _ h => h 0) (Cert.ReferenceIdeal.Value.run m' g')⟩

theorem claim : Cert.Claim :=
  ⟨Cert.Kernel.Gen.facts, Cert.KernelIdeal.Gen.facts, Cert.ReferenceIdeal.Gen.facts, Cert.Pre_finite_KernelIdeal.Gen.facts,
    Cert.Pre_finite_ReferenceIdeal.Gen.facts, frame_kernel, frame_ideal, fun m ρ _ => frame_ideal m ρ trivial, frame_reference,
    fun m ρ _ => frame_reference m ρ trivial, trivial, values_equal⟩

end Cert.Proof

end
